-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x2048 : Shape := ⟨2, ![2048, 2048]⟩
abbrev S2048x256 : Shape := ⟨2, ![2048, 256]⟩
abbrev S8x256x256 : Shape := ⟨3, ![8, 256, 256]⟩
abbrev S_ : Shape := ⟨0, ![]⟩
abbrev S4 : Shape := ⟨1, ![4]⟩
abbrev S8 : Shape := ⟨1, ![8]⟩
abbrev S1 : Shape := ⟨1, ![1]⟩
abbrev S512x2048 : Shape := ⟨2, ![512, 2048]⟩
abbrev S256x512 : Shape := ⟨2, ![256, 512]⟩
abbrev S512x256 : Shape := ⟨2, ![512, 256]⟩
abbrev S256x256 : Shape := ⟨2, ![256, 256]⟩
abbrev S1x256x256 : Shape := ⟨3, ![1, 256, 256]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S2048x256, .bf16⟩
  | .local _ .vmem, ⟨0, _⟩ => ⟨S256x2048, .f32⟩
  | .local _ .vmem, ⟨1, _⟩ => ⟨S2048x2048, .f32⟩
  | .local _ .vmem, ⟨2, _⟩ => ⟨S8x256x256, .bf16⟩
  | .local _ .vmem, ⟨3, _⟩ => ⟨S8x256x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v20 : BitVec 32 := Scalar.addi v2 c1_i32_14
  let c8_i32_15 : BitVec 32 := 8#32
  let c0_i32_16 : BitVec 32 := 0#32
  let v21 : BitVec 1 := Scalar.cmpi .eq c8_i32_15 c0_i32_16
  let c1_i32_17 : BitVec 32 := 1#32
  let v22 : BitVec 32 := Scalar.select v21 c1_i32_17 c8_i32_15
  let v23 : BitVec 32 := Scalar.remsi v20 v22
  let c0_i32_19 : BitVec 32 := 0#32
  let v25 : BitVec 1 := Scalar.cmpi .slt v23 c0_i32_19
  let c0_i32_20 : BitVec 32 := 0#32
  let v26 : BitVec 1 := Scalar.cmpi .slt v22 c0_i32_20
  let v27 : BitVec 1 := Scalar.xori v25 v26
  let c0_i32_18 : BitVec 32 := 0#32
  let v24 : BitVec 1 := Scalar.cmpi .ne v23 c0_i32_18
  let v28 : BitVec 1 := Scalar.andi v27 v24
  let v29 : BitVec 32 := Scalar.addi v23 v22
  let v30 : BitVec 32 := Scalar.select v28 v29 v23
  let c1_i32_22 : BitVec 32 := 1#32
  let v31 : BitVec 32 := Scalar.muli v30 c1_i32_22
  let v32 : BitVec 32 := Scalar.addi c0_i32_23 v31
  v32.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_24 : BitVec 32 := 2#32
  let v33 : BitVec 32 := Scalar.addi v2 c2_i32_24
  let c8_i32_25 : BitVec 32 := 8#32
  let c0_i32_26 : BitVec 32 := 0#32
  let v34 : BitVec 1 := Scalar.cmpi .eq c8_i32_25 c0_i32_26
  let c1_i32_27 : BitVec 32 := 1#32
  let v35 : BitVec 32 := Scalar.select v34 c1_i32_27 c8_i32_25
  let v36 : BitVec 32 := Scalar.remsi v33 v35
  let c0_i32_29 : BitVec 32 := 0#32
  let v38 : BitVec 1 := Scalar.cmpi .slt v36 c0_i32_29
  let c0_i32_30 : BitVec 32 := 0#32
  let v39 : BitVec 1 := Scalar.cmpi .slt v35 c0_i32_30
  let v40 : BitVec 1 := Scalar.xori v38 v39
  let c0_i32_28 : BitVec 32 := 0#32
  let v37 : BitVec 1 := Scalar.cmpi .ne v36 c0_i32_28
  let v41 : BitVec 1 := Scalar.andi v40 v37
  let v42 : BitVec 32 := Scalar.addi v36 v35
  let v43 : BitVec 32 := Scalar.select v41 v42 v36
  let c1_i32_32 : BitVec 32 := 1#32
  let v44 : BitVec 32 := Scalar.muli v43 c1_i32_32
  let v45 : BitVec 32 := Scalar.addi c0_i32_33 v44
  v45.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v46 : BitVec 32 := Scalar.addi v2 c3_i32_34
  let c8_i32_35 : BitVec 32 := 8#32
  let c0_i32_36 : BitVec 32 := 0#32
  let v47 : BitVec 1 := Scalar.cmpi .eq c8_i32_35 c0_i32_36
  let c1_i32_37 : BitVec 32 := 1#32
  let v48 : BitVec 32 := Scalar.select v47 c1_i32_37 c8_i32_35
  let v49 : BitVec 32 := Scalar.remsi v46 v48
  let c0_i32_39 : BitVec 32 := 0#32
  let v51 : BitVec 1 := Scalar.cmpi .slt v49 c0_i32_39
  let c0_i32_40 : BitVec 32 := 0#32
  let v52 : BitVec 1 := Scalar.cmpi .slt v48 c0_i32_40
  let v53 : BitVec 1 := Scalar.xori v51 v52
  let c0_i32_38 : BitVec 32 := 0#32
  let v50 : BitVec 1 := Scalar.cmpi .ne v49 c0_i32_38
  let v54 : BitVec 1 := Scalar.andi v53 v50
  let v55 : BitVec 32 := Scalar.addi v49 v48
  let v56 : BitVec 32 := Scalar.select v54 v55 v49
  let c1_i32_42 : BitVec 32 := 1#32
  let v57 : BitVec 32 := Scalar.muli v56 c1_i32_42
  let v58 : BitVec 32 := Scalar.addi c0_i32_43 v57
  v58.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v59 : BitVec 32 := Scalar.addi v2 c4_i32
  let c8_i32_44 : BitVec 32 := 8#32
  let c0_i32_45 : BitVec 32 := 0#32
  let v60 : BitVec 1 := Scalar.cmpi .eq c8_i32_44 c0_i32_45
  let c1_i32_46 : BitVec 32 := 1#32
  let v61 : BitVec 32 := Scalar.select v60 c1_i32_46 c8_i32_44
  let v62 : BitVec 32 := Scalar.remsi v59 v61
  let c0_i32_48 : BitVec 32 := 0#32
  let v64 : BitVec 1 := Scalar.cmpi .slt v62 c0_i32_48
  let c0_i32_49 : BitVec 32 := 0#32
  let v65 : BitVec 1 := Scalar.cmpi .slt v61 c0_i32_49
  let v66 : BitVec 1 := Scalar.xori v64 v65
  let c0_i32_47 : BitVec 32 := 0#32
  let v63 : BitVec 1 := Scalar.cmpi .ne v62 c0_i32_47
  let v67 : BitVec 1 := Scalar.andi v66 v63
  let v68 : BitVec 32 := Scalar.addi v62 v61
  let v69 : BitVec 32 := Scalar.select v67 v68 v62
  let c1_i32_51 : BitVec 32 := 1#32
  let v70 : BitVec 32 := Scalar.muli v69 c1_i32_51
  let v71 : BitVec 32 := Scalar.addi c0_i32_52 v70
  v71.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v72 : BitVec 32 := Scalar.addi v2 c5_i32
  let c8_i32_53 : BitVec 32 := 8#32
  let c0_i32_54 : BitVec 32 := 0#32
  let v73 : BitVec 1 := Scalar.cmpi .eq c8_i32_53 c0_i32_54
  let c1_i32_55 : BitVec 32 := 1#32
  let v74 : BitVec 32 := Scalar.select v73 c1_i32_55 c8_i32_53
  let v75 : BitVec 32 := Scalar.remsi v72 v74
  let c0_i32_57 : BitVec 32 := 0#32
  let v77 : BitVec 1 := Scalar.cmpi .slt v75 c0_i32_57
  let c0_i32_58 : BitVec 32 := 0#32
  let v78 : BitVec 1 := Scalar.cmpi .slt v74 c0_i32_58
  let v79 : BitVec 1 := Scalar.xori v77 v78
  let c0_i32_56 : BitVec 32 := 0#32
  let v76 : BitVec 1 := Scalar.cmpi .ne v75 c0_i32_56
  let v80 : BitVec 1 := Scalar.andi v79 v76
  let v81 : BitVec 32 := Scalar.addi v75 v74
  let v82 : BitVec 32 := Scalar.select v80 v81 v75
  let c1_i32_60 : BitVec 32 := 1#32
  let v83 : BitVec 32 := Scalar.muli v82 c1_i32_60
  let v84 : BitVec 32 := Scalar.addi c0_i32_61 v83
  v84.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v85 : BitVec 32 := Scalar.addi v2 c6_i32
  let c8_i32_62 : BitVec 32 := 8#32
  let c0_i32_63 : BitVec 32 := 0#32
  let v86 : BitVec 1 := Scalar.cmpi .eq c8_i32_62 c0_i32_63
  let c1_i32_64 : BitVec 32 := 1#32
  let v87 : BitVec 32 := Scalar.select v86 c1_i32_64 c8_i32_62
  let v88 : BitVec 32 := Scalar.remsi v85 v87
  let c0_i32_66 : BitVec 32 := 0#32
  let v90 : BitVec 1 := Scalar.cmpi .slt v88 c0_i32_66
  let c0_i32_67 : BitVec 32 := 0#32
  let v91 : BitVec 1 := Scalar.cmpi .slt v87 c0_i32_67
  let v92 : BitVec 1 := Scalar.xori v90 v91
  let c0_i32_65 : BitVec 32 := 0#32
  let v89 : BitVec 1 := Scalar.cmpi .ne v88 c0_i32_65
  let v93 : BitVec 1 := Scalar.andi v92 v89
  let v94 : BitVec 32 := Scalar.addi v88 v87
  let v95 : BitVec 32 := Scalar.select v93 v94 v88
  let c1_i32_69 : BitVec 32 := 1#32
  let v96 : BitVec 32 := Scalar.muli v95 c1_i32_69
  let v97 : BitVec 32 := Scalar.addi c0_i32_70 v96
  v97.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v98 : BitVec 32 := Scalar.addi v2 c7_i32
  let c8_i32_71 : BitVec 32 := 8#32
  let c0_i32_72 : BitVec 32 := 0#32
  let v99 : BitVec 1 := Scalar.cmpi .eq c8_i32_71 c0_i32_72
  let c1_i32_73 : BitVec 32 := 1#32
  let v100 : BitVec 32 := Scalar.select v99 c1_i32_73 c8_i32_71
  let v101 : BitVec 32 := Scalar.remsi v98 v100
  let c0_i32_75 : BitVec 32 := 0#32
  let v103 : BitVec 1 := Scalar.cmpi .slt v101 c0_i32_75
  let c0_i32_76 : BitVec 32 := 0#32
  let v104 : BitVec 1 := Scalar.cmpi .slt v100 c0_i32_76
  let v105 : BitVec 1 := Scalar.xori v103 v104
  let c0_i32_74 : BitVec 32 := 0#32
  let v102 : BitVec 1 := Scalar.cmpi .ne v101 c0_i32_74
  let v106 : BitVec 1 := Scalar.andi v105 v102
  let v107 : BitVec 32 := Scalar.addi v101 v100
  let v108 : BitVec 32 := Scalar.select v106 v107 v101
  let c1_i32_78 : BitVec 32 := 1#32
  let v109 : BitVec 32 := Scalar.muli v108 c1_i32_78
  let v110 : BitVec 32 := Scalar.addi c0_i32_79 v109
  v110.toNat
def k0_off1 (d0 : Dev nD) (c0_i32_86 : BitVec 32) : Fin 2 → Nat :=
  let c0_94 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v115 : BitVec 32 := Scalar.addi v2 c0_i32_86
  let c8_i32_87 : BitVec 32 := 8#32
  let c0_i32_88 : BitVec 32 := 0#32
  let v116 : BitVec 1 := Scalar.cmpi .eq c8_i32_87 c0_i32_88
  let c1_i32_89 : BitVec 32 := 1#32
  let v117 : BitVec 32 := Scalar.select v116 c1_i32_89 c8_i32_87
  let v118 : BitVec 32 := Scalar.remsi v115 v117
  let c0_i32_91 : BitVec 32 := 0#32
  let v120 : BitVec 1 := Scalar.cmpi .slt v118 c0_i32_91
  let c0_i32_92 : BitVec 32 := 0#32
  let v121 : BitVec 1 := Scalar.cmpi .slt v117 c0_i32_92
  let v122 : BitVec 1 := Scalar.xori v120 v121
  let c0_i32_90 : BitVec 32 := 0#32
  let v119 : BitVec 1 := Scalar.cmpi .ne v118 c0_i32_90
  let v123 : BitVec 1 := Scalar.andi v122 v119
  let v124 : BitVec 32 := Scalar.addi v118 v117
  let v125 : BitVec 32 := Scalar.select v123 v124 v118
  let c256_i32 : BitVec 32 := 256#32
  let v127 : BitVec 32 := Scalar.muli v125 c256_i32
  let v128 : Index := Scalar.indexCast v127
  ![0, v128.toNat]
def k0_off2 (d0 : Dev nD) (c0_i32_201 : BitVec 32) : Fin 2 → Nat :=
  let c512_210 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v271 : BitVec 32 := Scalar.addi v2 c0_i32_201
  let c8_i32_202 : BitVec 32 := 8#32
  let c0_i32_203 : BitVec 32 := 0#32
  let v272 : BitVec 1 := Scalar.cmpi .eq c8_i32_202 c0_i32_203
  let c1_i32_204 : BitVec 32 := 1#32
  let v273 : BitVec 32 := Scalar.select v272 c1_i32_204 c8_i32_202
  let v274 : BitVec 32 := Scalar.remsi v271 v273
  let c0_i32_206 : BitVec 32 := 0#32
  let v276 : BitVec 1 := Scalar.cmpi .slt v274 c0_i32_206
  let c0_i32_207 : BitVec 32 := 0#32
  let v277 : BitVec 1 := Scalar.cmpi .slt v273 c0_i32_207
  let v278 : BitVec 1 := Scalar.xori v276 v277
  let c0_i32_205 : BitVec 32 := 0#32
  let v275 : BitVec 1 := Scalar.cmpi .ne v274 c0_i32_205
  let v279 : BitVec 1 := Scalar.andi v278 v275
  let v280 : BitVec 32 := Scalar.addi v274 v273
  let v281 : BitVec 32 := Scalar.select v279 v280 v274
  let c256_i32_209 : BitVec 32 := 256#32
  let v283 : BitVec 32 := Scalar.muli v281 c256_i32_209
  let v284 : Index := Scalar.indexCast v283
  ![512, v284.toNat]
def k0_off3 (d0 : Dev nD) (c0_i32_349 : BitVec 32) : Fin 2 → Nat :=
  let c1024_358 : Index := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v451 : BitVec 32 := Scalar.addi v2 c0_i32_349
  let c8_i32_350 : BitVec 32 := 8#32
  let c0_i32_351 : BitVec 32 := 0#32
  let v452 : BitVec 1 := Scalar.cmpi .eq c8_i32_350 c0_i32_351
  let c1_i32_352 : BitVec 32 := 1#32
  let v453 : BitVec 32 := Scalar.select v452 c1_i32_352 c8_i32_350
  let v454 : BitVec 32 := Scalar.remsi v451 v453
  let c0_i32_354 : BitVec 32 := 0#32
  let v456 : BitVec 1 := Scalar.cmpi .slt v454 c0_i32_354
  let c0_i32_355 : BitVec 32 := 0#32
  let v457 : BitVec 1 := Scalar.cmpi .slt v453 c0_i32_355
  let v458 : BitVec 1 := Scalar.xori v456 v457
  let c0_i32_353 : BitVec 32 := 0#32
  let v455 : BitVec 1 := Scalar.cmpi .ne v454 c0_i32_353
  let v459 : BitVec 1 := Scalar.andi v458 v455
  let v460 : BitVec 32 := Scalar.addi v454 v453
  let v461 : BitVec 32 := Scalar.select v459 v460 v454
  let c256_i32_357 : BitVec 32 := 256#32
  let v463 : BitVec 32 := Scalar.muli v461 c256_i32_357
  let v464 : Index := Scalar.indexCast v463
  ![1024, v464.toNat]
def k0_off4 (d0 : Dev nD) (c1_i32_497 : BitVec 32) : Fin 2 → Nat :=
  let c1536_509 : Index := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v631 : BitVec 32 := Scalar.addi v2 c1_i32_497
  let c8_i32_498 : BitVec 32 := 8#32
  let c0_i32_499 : BitVec 32 := 0#32
  let v632 : BitVec 1 := Scalar.cmpi .eq c8_i32_498 c0_i32_499
  let c1_i32_500 : BitVec 32 := 1#32
  let v633 : BitVec 32 := Scalar.select v632 c1_i32_500 c8_i32_498
  let v634 : BitVec 32 := Scalar.remsi v631 v633
  let c0_i32_502 : BitVec 32 := 0#32
  let v636 : BitVec 1 := Scalar.cmpi .slt v634 c0_i32_502
  let c0_i32_503 : BitVec 32 := 0#32
  let v637 : BitVec 1 := Scalar.cmpi .slt v633 c0_i32_503
  let v638 : BitVec 1 := Scalar.xori v636 v637
  let c0_i32_501 : BitVec 32 := 0#32
  let v635 : BitVec 1 := Scalar.cmpi .ne v634 c0_i32_501
  let v639 : BitVec 1 := Scalar.andi v638 v635
  let v640 : BitVec 32 := Scalar.addi v634 v633
  let v641 : BitVec 32 := Scalar.select v639 v640 v634
  let c256_i32_508 : BitVec 32 := 256#32
  let v645 : BitVec 32 := Scalar.muli v641 c256_i32_508
  let v646 : Index := Scalar.indexCast v645
  ![1536, v646.toNat]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_518 : BitVec 32 := 256#32
  let v667 : BitVec 32 := Scalar.muli v2 c256_i32_518
  let c0_i32_524 : BitVec 32 := 0#32
  ![v667.toNat, 0]
def k0_dev8 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_497 : BitVec 32 := 1#32
  let v631 : BitVec 32 := Scalar.addi v2 c1_i32_497
  let c8_i32_498 : BitVec 32 := 8#32
  let c0_i32_499 : BitVec 32 := 0#32
  let v632 : BitVec 1 := Scalar.cmpi .eq c8_i32_498 c0_i32_499
  let c1_i32_500 : BitVec 32 := 1#32
  let v633 : BitVec 32 := Scalar.select v632 c1_i32_500 c8_i32_498
  let v634 : BitVec 32 := Scalar.remsi v631 v633
  let c0_i32_502 : BitVec 32 := 0#32
  let v636 : BitVec 1 := Scalar.cmpi .slt v634 c0_i32_502
  let c0_i32_503 : BitVec 32 := 0#32
  let v637 : BitVec 1 := Scalar.cmpi .slt v633 c0_i32_503
  let v638 : BitVec 1 := Scalar.xori v636 v637
  let c0_i32_501 : BitVec 32 := 0#32
  let v635 : BitVec 1 := Scalar.cmpi .ne v634 c0_i32_501
  let v639 : BitVec 1 := Scalar.andi v638 v635
  let v640 : BitVec 32 := Scalar.addi v634 v633
  let v641 : BitVec 32 := Scalar.select v639 v640 v634
  let c1_i32_522 : BitVec 32 := 1#32
  let v668 : BitVec 32 := Scalar.muli v641 c1_i32_522
  let v669 : BitVec 32 := Scalar.addi c0_i32_523 v668
  v669.toNat
def k0_dev9 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_527 : BitVec 32 := 2#32
  let v677 : BitVec 32 := Scalar.addi v2 c2_i32_527
  let c8_i32_528 : BitVec 32 := 8#32
  let c0_i32_529 : BitVec 32 := 0#32
  let v678 : BitVec 1 := Scalar.cmpi .eq c8_i32_528 c0_i32_529
  let c1_i32_530 : BitVec 32 := 1#32
  let v679 : BitVec 32 := Scalar.select v678 c1_i32_530 c8_i32_528
  let v680 : BitVec 32 := Scalar.remsi v677 v679
  let c0_i32_532 : BitVec 32 := 0#32
  let v682 : BitVec 1 := Scalar.cmpi .slt v680 c0_i32_532
  let c0_i32_533 : BitVec 32 := 0#32
  let v683 : BitVec 1 := Scalar.cmpi .slt v679 c0_i32_533
  let v684 : BitVec 1 := Scalar.xori v682 v683
  let c0_i32_531 : BitVec 32 := 0#32
  let v681 : BitVec 1 := Scalar.cmpi .ne v680 c0_i32_531
  let v685 : BitVec 1 := Scalar.andi v684 v681
  let v686 : BitVec 32 := Scalar.addi v680 v679
  let v687 : BitVec 32 := Scalar.select v685 v686 v680
  let c1_i32_553 : BitVec 32 := 1#32
  let v714 : BitVec 32 := Scalar.muli v687 c1_i32_553
  let v715 : BitVec 32 := Scalar.addi c0_i32_554 v714
  v715.toNat
def k0_dev10 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_558 : BitVec 32 := 3#32
  let v723 : BitVec 32 := Scalar.addi v2 c3_i32_558
  let c8_i32_559 : BitVec 32 := 8#32
  let c0_i32_560 : BitVec 32 := 0#32
  let v724 : BitVec 1 := Scalar.cmpi .eq c8_i32_559 c0_i32_560
  let c1_i32_561 : BitVec 32 := 1#32
  let v725 : BitVec 32 := Scalar.select v724 c1_i32_561 c8_i32_559
  let v726 : BitVec 32 := Scalar.remsi v723 v725
  let c0_i32_563 : BitVec 32 := 0#32
  let v728 : BitVec 1 := Scalar.cmpi .slt v726 c0_i32_563
  let c0_i32_564 : BitVec 32 := 0#32
  let v729 : BitVec 1 := Scalar.cmpi .slt v725 c0_i32_564
  let v730 : BitVec 1 := Scalar.xori v728 v729
  let c0_i32_562 : BitVec 32 := 0#32
  let v727 : BitVec 1 := Scalar.cmpi .ne v726 c0_i32_562
  let v731 : BitVec 1 := Scalar.andi v730 v727
  let v732 : BitVec 32 := Scalar.addi v726 v725
  let v733 : BitVec 32 := Scalar.select v731 v732 v726
  let c1_i32_584 : BitVec 32 := 1#32
  let v760 : BitVec 32 := Scalar.muli v733 c1_i32_584
  let v761 : BitVec 32 := Scalar.addi c0_i32_585 v760
  v761.toNat
def k0_dev11 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_589 : BitVec 32 := 4#32
  let v769 : BitVec 32 := Scalar.addi v2 c4_i32_589
  let c8_i32_590 : BitVec 32 := 8#32
  let c0_i32_591 : BitVec 32 := 0#32
  let v770 : BitVec 1 := Scalar.cmpi .eq c8_i32_590 c0_i32_591
  let c1_i32_592 : BitVec 32 := 1#32
  let v771 : BitVec 32 := Scalar.select v770 c1_i32_592 c8_i32_590
  let v772 : BitVec 32 := Scalar.remsi v769 v771
  let c0_i32_594 : BitVec 32 := 0#32
  let v774 : BitVec 1 := Scalar.cmpi .slt v772 c0_i32_594
  let c0_i32_595 : BitVec 32 := 0#32
  let v775 : BitVec 1 := Scalar.cmpi .slt v771 c0_i32_595
  let v776 : BitVec 1 := Scalar.xori v774 v775
  let c0_i32_593 : BitVec 32 := 0#32
  let v773 : BitVec 1 := Scalar.cmpi .ne v772 c0_i32_593
  let v777 : BitVec 1 := Scalar.andi v776 v773
  let v778 : BitVec 32 := Scalar.addi v772 v771
  let v779 : BitVec 32 := Scalar.select v777 v778 v772
  let c1_i32_615 : BitVec 32 := 1#32
  let v806 : BitVec 32 := Scalar.muli v779 c1_i32_615
  let v807 : BitVec 32 := Scalar.addi c0_i32_616 v806
  v807.toNat
def k0_dev12 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_620 : BitVec 32 := 5#32
  let v815 : BitVec 32 := Scalar.addi v2 c5_i32_620
  let c8_i32_621 : BitVec 32 := 8#32
  let c0_i32_622 : BitVec 32 := 0#32
  let v816 : BitVec 1 := Scalar.cmpi .eq c8_i32_621 c0_i32_622
  let c1_i32_623 : BitVec 32 := 1#32
  let v817 : BitVec 32 := Scalar.select v816 c1_i32_623 c8_i32_621
  let v818 : BitVec 32 := Scalar.remsi v815 v817
  let c0_i32_625 : BitVec 32 := 0#32
  let v820 : BitVec 1 := Scalar.cmpi .slt v818 c0_i32_625
  let c0_i32_626 : BitVec 32 := 0#32
  let v821 : BitVec 1 := Scalar.cmpi .slt v817 c0_i32_626
  let v822 : BitVec 1 := Scalar.xori v820 v821
  let c0_i32_624 : BitVec 32 := 0#32
  let v819 : BitVec 1 := Scalar.cmpi .ne v818 c0_i32_624
  let v823 : BitVec 1 := Scalar.andi v822 v819
  let v824 : BitVec 32 := Scalar.addi v818 v817
  let v825 : BitVec 32 := Scalar.select v823 v824 v818
  let c1_i32_646 : BitVec 32 := 1#32
  let v852 : BitVec 32 := Scalar.muli v825 c1_i32_646
  let v853 : BitVec 32 := Scalar.addi c0_i32_647 v852
  v853.toNat
def k0_dev13 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_651 : BitVec 32 := 6#32
  let v861 : BitVec 32 := Scalar.addi v2 c6_i32_651
  let c8_i32_652 : BitVec 32 := 8#32
  let c0_i32_653 : BitVec 32 := 0#32
  let v862 : BitVec 1 := Scalar.cmpi .eq c8_i32_652 c0_i32_653
  let c1_i32_654 : BitVec 32 := 1#32
  let v863 : BitVec 32 := Scalar.select v862 c1_i32_654 c8_i32_652
  let v864 : BitVec 32 := Scalar.remsi v861 v863
  let c0_i32_656 : BitVec 32 := 0#32
  let v866 : BitVec 1 := Scalar.cmpi .slt v864 c0_i32_656
  let c0_i32_657 : BitVec 32 := 0#32
  let v867 : BitVec 1 := Scalar.cmpi .slt v863 c0_i32_657
  let v868 : BitVec 1 := Scalar.xori v866 v867
  let c0_i32_655 : BitVec 32 := 0#32
  let v865 : BitVec 1 := Scalar.cmpi .ne v864 c0_i32_655
  let v869 : BitVec 1 := Scalar.andi v868 v865
  let v870 : BitVec 32 := Scalar.addi v864 v863
  let v871 : BitVec 32 := Scalar.select v869 v870 v864
  let c1_i32_677 : BitVec 32 := 1#32
  let v898 : BitVec 32 := Scalar.muli v871 c1_i32_677
  let v899 : BitVec 32 := Scalar.addi c0_i32_678 v898
  v899.toNat
def k0_dev14 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_682 : BitVec 32 := 7#32
  let v907 : BitVec 32 := Scalar.addi v2 c7_i32_682
  let c8_i32_683 : BitVec 32 := 8#32
  let c0_i32_684 : BitVec 32 := 0#32
  let v908 : BitVec 1 := Scalar.cmpi .eq c8_i32_683 c0_i32_684
  let c1_i32_685 : BitVec 32 := 1#32
  let v909 : BitVec 32 := Scalar.select v908 c1_i32_685 c8_i32_683
  let v910 : BitVec 32 := Scalar.remsi v907 v909
  let c0_i32_687 : BitVec 32 := 0#32
  let v912 : BitVec 1 := Scalar.cmpi .slt v910 c0_i32_687
  let c0_i32_688 : BitVec 32 := 0#32
  let v913 : BitVec 1 := Scalar.cmpi .slt v909 c0_i32_688
  let v914 : BitVec 1 := Scalar.xori v912 v913
  let c0_i32_686 : BitVec 32 := 0#32
  let v911 : BitVec 1 := Scalar.cmpi .ne v910 c0_i32_686
  let v915 : BitVec 1 := Scalar.andi v914 v911
  let v916 : BitVec 32 := Scalar.addi v910 v909
  let v917 : BitVec 32 := Scalar.select v915 v916 v910
  let c1_i32_708 : BitVec 32 := 1#32
  let v944 : BitVec 32 := Scalar.muli v917 c1_i32_708
  let v945 : BitVec 32 := Scalar.addi c0_i32_709 v944
  v945.toNat
def k0_off6 (d0 : Dev nD) : Fin 2 → Nat :=
  let c1536_719 : Index := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_718 : BitVec 32 := 256#32
  let v956 : BitVec 32 := Scalar.muli v2 c256_i32_718
  let v957 : Index := Scalar.indexCast v956
  ![1536, v957.toNat]
def k0_off7 (d0 : Dev nD) (c1_i32_733 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v982 : BitVec 32 := Scalar.subi v2 c1_i32_733
  let c8_i32_734 : BitVec 32 := 8#32
  let c0_i32_735 : BitVec 32 := 0#32
  let v983 : BitVec 1 := Scalar.cmpi .eq c8_i32_734 c0_i32_735
  let c1_i32_736 : BitVec 32 := 1#32
  let v984 : BitVec 32 := Scalar.select v983 c1_i32_736 c8_i32_734
  let v985 : BitVec 32 := Scalar.remsi v982 v984
  let c0_i32_738 : BitVec 32 := 0#32
  let v987 : BitVec 1 := Scalar.cmpi .slt v985 c0_i32_738
  let c0_i32_739 : BitVec 32 := 0#32
  let v988 : BitVec 1 := Scalar.cmpi .slt v984 c0_i32_739
  let v989 : BitVec 1 := Scalar.xori v987 v988
  let c0_i32_737 : BitVec 32 := 0#32
  let v986 : BitVec 1 := Scalar.cmpi .ne v985 c0_i32_737
  let v990 : BitVec 1 := Scalar.andi v989 v986
  let v991 : BitVec 32 := Scalar.addi v985 v984
  let v992 : BitVec 32 := Scalar.select v990 v991 v985
  let c256_i32_740 : BitVec 32 := 256#32
  let v993 : BitVec 32 := Scalar.muli v992 c256_i32_740
  let c0_i32_746 : BitVec 32 := 0#32
  ![v993.toNat, 0]
-- ==== ReferenceIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Common.lean ====
/-
# The exchange: devices, memrefs, contents and the protocol of the semaphores

The kernel multiplies a device's rows of `x` by all of `w`, column block by column block, and puts the block
of columns that belongs to device `p` straight into `p`'s result. Every device writes one block of rows of every
other device's result, so the devices first meet at the barrier semaphore: each signals the seven others and
waits for seven signals. A signal from `p` to `c` carries the right to write `c`'s block of rows of `p`'s result.

The protocol, stated with the rounds library: a device's barrier cell has seven duties at round 0, one for each
other device; the seven cells for departures and the seven for arrivals have one duty each.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's copy, the exchange's (duties `Fin 7`), and the counters of local copies -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices: `fwd c j` is `j + 1` places after `c`, `bwd c j` is `j + 1` places before it -/

def fwd (c : Dev nD) (j : Fin 7) : Dev nD := ⟨(c.val + (j.val + 1)) % 8, Nat.mod_lt _ (by decide)⟩
def bwd (c : Dev nD) (j : Fin 7) : Dev nD := ⟨(c.val + (7 - j.val)) % 8, Nat.mod_lt _ (by decide)⟩

theorem bwd_fwd (c : Dev nD) (j : Fin 7) : bwd (fwd c j) j = c := by revert c j; decide +kernel
theorem fwd_bwd (c : Dev nD) (j : Fin 7) : fwd (bwd c j) j = c := by revert c j; decide +kernel
theorem fwd_rev (c : Dev nD) (j : Fin 7) : fwd c (Fin.rev j) = bwd c j := by revert c j; decide +kernel
theorem bwd_rev (c : Dev nD) (j : Fin 7) : bwd c (Fin.rev j) = fwd c j := by revert c j; decide +kernel
theorem fwd_ne (c : Dev nD) (j : Fin 7) : fwd c j ≠ c := by revert c j; decide +kernel
theorem bwd_ne (c : Dev nD) (j : Fin 7) : bwd c j ≠ c := by revert c j; decide +kernel
theorem fwd_inj (c : Dev nD) {i j : Fin 7} (h : fwd c i = fwd c j) : i = j := by revert c i j; decide +kernel

/-- The shift by `j + 1` places. -/
def shift (j : Fin 7) : Dev nD ≃ Dev nD := ⟨fun c => fwd c j, fun c => bwd c j, fun c => bwd_fwd c j, fun c => fwd_bwd c j⟩

/-! ## The memrefs -/

abbrev aM : Memref sig .tc .hbm S256x2048 .f32 := Memref.whole main_arg0
abbrev bM : Memref sig .tc .hbm S2048x2048 .f32 := Memref.whole main_arg1
abbrev oM : Memref sig .tc .hbm S2048x256 .bf16 := Memref.whole main_v1
abbrev xM : Memref sig .tc .vmem S256x2048 .f32 := Memref.whole cc0_scratch0
abbrev wM : Memref sig .tc .vmem S2048x2048 .f32 := Memref.whole cc0_scratch1
abbrev yM : Memref sig .tc .vmem S8x256x256 .bf16 := Memref.whole cc0_scratch2
abbrev pM : Memref sig .tc .vmem S8x256x256 .f32 := Memref.whole cc0_scratch3

/-- The rows of device `s` in a result. -/
abbrev outRect (s : Dev nD) : Rect S2048x256 := Rect.unit (s := S2048x256) (k0_off5 s) S256x256.size (k0_off5_inb s)
abbrev outBlk (s : Dev nD) : Memref sig .tc .hbm S256x256 .bf16 := oM.slice (outRect s) (fun _ => rfl)

theorem slot_inb (j : Fin 8) : ∀ a, (![j.val, 0, 0] : Fin 3 → Nat) a + S1x256x256.size a ≤ S8x256x256.size a := by
  revert j; decide
/-- Slot `j` of the two buffers of eight blocks. -/
abbrev slotRect (j : Fin 8) : Rect S8x256x256 := Rect.unit (s := S8x256x256) ![j.val, 0, 0] S1x256x256.size (slot_inb j)
abbrev ySlice (j : Fin 8) : Memref sig .tc .vmem S1x256x256 .bf16 := yM.slice (slotRect j) (fun _ => rfl)
abbrev ySlot (j : Fin 8) : Memref sig .tc .vmem S256x256 .bf16 := (ySlice j).squeeze S256x256 squeezes_S1x256x256_S256x256
abbrev pSlice (j : Fin 8) : Memref sig .tc .vmem S1x256x256 .f32 := pM.slice (slotRect j) (fun _ => rfl)

theorem quarter_inb (q : Fin 4) : ∀ a, (![512 * q.val, 0] : Fin 2 → Nat) a + S512x2048.size a ≤ S2048x2048.size a := by
  revert q; decide
/-- Rows `512 q …` of `w`. -/
abbrev qRect (q : Fin 4) : Rect S2048x2048 := Rect.unit (s := S2048x2048) ![512 * q.val, 0] S512x2048.size (quarter_inb q)
abbrev wQ (q : Fin 4) : Memref sig .tc .vmem S512x2048 .f32 := wM.slice (qRect q) (fun _ => rfl)
abbrev bQ (q : Fin 4) : Memref sig .tc .hbm S512x2048 .f32 := bM.slice (qRect q) (fun _ => rfl)

theorem xcol_inb (q : Fin 4) : ∀ a, (![0, 512 * q.val] : Fin 2 → Nat) a + S256x512.size a ≤ S256x2048.size a := by
  revert q; decide
theorem wtile_inb (q : Fin 4) (p : Dev nD) : ∀ a, (![512 * q.val, 256 * p.val] : Fin 2 → Nat) a + S512x256.size a ≤ S2048x2048.size a := by
  revert q p; decide +kernel
/-- Columns `512 q …` of `x`; rows `512 q …`, columns `256 p …` of `w`. -/
abbrev xRect (q : Fin 4) : Rect S256x2048 := Rect.unit (s := S256x2048) ![0, 512 * q.val] S256x512.size (xcol_inb q)
abbrev wRect (q : Fin 4) (p : Dev nD) : Rect S2048x2048 := Rect.unit (s := S2048x2048) ![512 * q.val, 256 * p.val] S512x256.size (wtile_inb q p)

/-! ## The cells -/

/-- The barrier semaphore, and the semaphores of departures and arrivals, by the distance of the other device. -/
abbrev barS : Sem sig := (SemArray.scalar (sig.barrier 0 rfl) : Sems sig S_).sem
abbrev sendS (j : Fin 7) : DmaSem sig := ⟨7 + j.val, by have := j.isLt; show 7 + j.val < 22; omega⟩
abbrev recvS (j : Fin 7) : DmaSem sig := ⟨15 + j.val, by have := j.isLt; show 15 + j.val < 22; omega⟩

/-- A device's cells in the exchange: the barrier, the seven of departures, the seven of arrivals. -/
abbrev CK : Type := Unit ⊕ (Fin 7 ⊕ Fin 7)
abbrev kBar : CK := .inl ()
abbrev kSend (j : Fin 7) : CK := .inr (.inl j)
abbrev kRecv (j : Fin 7) : CK := .inr (.inr j)

def csem : CK → SemLoc sig
  | .inl _ => .reg barS
  | .inr (.inl j) => .dma (sendS j)
  | .inr (.inr j) => .dma (recvS j)

/-- Which of the exchange's cells a semaphore is. -/
def role : SemLoc sig → Option CK
  | .reg s => if s = barS then some kBar else none
  | .dma s =>
    if h : 7 ≤ s.val ∧ s.val < 14 then some (kSend ⟨s.val - 7, by omega⟩)
    else if h : 15 ≤ s.val ∧ s.val < 22 then some (kRecv ⟨s.val - 15, by omega⟩) else none

theorem role_csem (k : CK) : role (csem k) = some k := by revert k; decide +kernel
theorem role_bar : role (.reg barS) = some kBar := role_csem kBar
theorem role_send (j : Fin 7) : role (.dma (sendS j)) = some (kSend j) := role_csem (kSend j)
theorem role_recv (j : Fin 7) : role (.dma (recvS j)) = some (kRecv j) := role_csem (kRecv j)

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))
abbrev kcell (ck : Dev nD × CK) : GSem nD τ sig := ((ck.1 : Thread nD τ), csem ck.2)

/-- The credit of one block. -/
abbrev N : ℕ := (ySlot 0).view.dmaCredit
theorem N_pos : 0 < N := View.dmaCredit_pos _ (by decide)

/-! ## Contents -/

/-- Device `c`'s rows of `x`, and its copy of `w`. -/
def X (c : Dev nD) : S256x2048.Idx → Elt F .f32 := m ((c : Thread nD τ).loc main_arg0)
def W (c : Dev nD) : S2048x2048.Idx → Elt F .f32 := m ((c : Thread nD τ).loc main_arg1)

/-- The pieces of them the products take. -/
def xPc (c : Dev nD) (q : Fin 4) : Vec F S256x512 .f32 := xM.view.readAt (Elt F) (xRect q).toLoadRect (X m c)
def wPc (c : Dev nD) (q : Fin 4) (p : Dev nD) : Vec F S512x256 .f32 := wM.view.readAt (Elt F) (wRect q p).toLoadRect (W m c)

/-- The sum of the first three quarter products for column block `p`, as the kernel accumulates it. -/
def acc (c p : Dev nD) : FVec F S1x256x256 .f32 :=
  k0_pay9 (xPc m c 2) (wPc m c 2 p) (k0_pay9 (xPc m c 1) (wPc m c 1 p) (k0_pay1 (xPc m c 0) (wPc m c 0 p)))

/-- The finished column block `p` of device `c`'s rows, as stored and as sent. -/
def blk3 (c p : Dev nD) : FVec F S1x256x256 .bf16 := k0_pay31 (acc m c p) (xPc m c 3) (wPc m c 3 p)
def blk (c p : Dev nD) : S256x256.Idx → Elt F .bf16 :=
  fun i => blk3 m c p (Shape.reshapeEquiv squeezes_S1x256x256_S256x256.numel_eq i)

/-- Device `c`'s result: the block of rows of every device `s` is `s`'s column block `c`. -/
def out (c : Dev nD) : S2048x256.Idx → Elt F .bf16 := fun i =>
  blk m ⟨(i 0).val / 256, by have := (i 0).isLt; show (i 0).val / 256 < 8; have h : (i 0).val < 2048 := this; omega⟩ c
    (fun a => match a with
      | ⟨0, _⟩ => ⟨(i 0).val % 256, Nat.mod_lt _ (by decide)⟩
      | ⟨1, _⟩ => ⟨(i 1).val, (i 1).isLt⟩)

/-- Device `s`'s rows of device `p`'s result, at contents `f`. -/
def outPts (p s : Dev nD) (f : Buf (Elt F) ((outBlk s).view.loc (p : Thread nD τ))) : sProp 𝕄 :=
  (outBlk s).view.loc (p : Thread nD τ) ↦[(outBlk s).view.set]{fullShare} f
/-- The same rows, holding the block `v`. -/
def outHas (p s : Dev nD) (v : S256x256.Idx → Elt F .bf16) : sProp 𝕄 :=
  owns (p : Thread nD τ) (outBlk s) fullShare v
/-- Slot `j` of a device's buffer of finished blocks. -/
def yPts (c : Dev nD) (j : Fin 8) (f : Buf (Elt F) ((ySlot j).view.loc (c : Thread nD τ))) : sProp 𝕄 :=
  (ySlot j).view.loc (c : Thread nD τ) ↦[(ySlot j).view.set]{fullShare} f

omit [FloatOps F] in
instance outPts_storable (p s : Dev nD) (f) : BI.Storable (upEmb : UEmb _ 𝕄) (outPts (F := F) p s f) := by unfold outPts; infer_instance
omit [FloatOps F] in
instance outHas_storable (p s : Dev nD) (v) : BI.Storable (upEmb : UEmb _ 𝕄) (outHas (F := F) p s v) := by unfold outHas owns; infer_instance
omit [FloatOps F] in
instance yPts_storable (c : Dev nD) (j) (f) : BI.Storable (upEmb : UEmb _ 𝕄) (yPts (F := F) c j f) := by unfold yPts; infer_instance

/-! ## The schedule -/

/-- What device `bwd c d`'s signal hands `c`: `c`'s rows of `bwd c d`'s result. -/
def barPay (c : Dev nD) (d : Fin 7) : sProp 𝕄 := iprop(∃ f, outPts (bwd c d) c f)
/-- What an arrival hands: the rows of the device that sent it, holding its block. -/
def recvPay (c : Dev nD) (j : Fin 7) : sProp 𝕄 := outHas c (bwd c j) (blk m (bwd c j) c)
/-- What a departure hands back: the slot the block was sent from. -/
def sendPay (c : Dev nD) (j : Fin 7) : sProp 𝕄 := iprop(∃ f, yPts c j.succ f)

def pay (c : Dev nD) (d : Fin 7) : Option CK → sProp 𝕄
  | some (.inl _) => barPay c d
  | some (.inr (.inl j)) => sendPay c j
  | some (.inr (.inr j)) => recvPay m c j
  | none => iprop(emp)

def dut : Option CK → Finset (Fin 7)
  | some (.inl _) => Finset.univ
  | some (.inr _) => {0}
  | none => ∅

def amt : Option CK → ℕ
  | some (.inl _) => 1
  | _ => N

theorem amt_pos : ∀ k, 0 < amt k
  | some (.inl _) => Nat.one_pos
  | some (.inr _) => N_pos
  | none => N_pos

/-- One round, round 0. -/
def Rd : Rounds.Schedule (GSem nD τ sig) (Fin 7) 𝕄 where
  duties g r := if r = 0 ∧ g.1.2 = .tc then dut (role g.2) else ∅
  unitless _ := False
  amount g _ _ := amt (role g.2)
  payload g _ d := pay m g.1.1 d (role g.2)
  amount_pos g _ _ _ := amt_pos _

instance pay_storable (c : Dev nD) (d : Fin 7) (k : Option CK) : BI.Storable (upEmb : UEmb _ 𝕄) (pay (F := F) m c d k) := by
  rcases k with _ | (_ | (j | j)) <;> unfold pay
  · infer_instance
  · unfold barPay; infer_instance
  · unfold sendPay; infer_instance
  · unfold recvPay; infer_instance

instance Rd_payload_storable (g : GSem nD τ sig) (r : ℕ) (d : Fin 7) :
    BI.Storable (upEmb : UEmb _ 𝕄) ((Rd (F := F) m).payload g r d) := pay_storable m g.1.1 d (role g.2)

section Sched
variable (c : Dev nD) (j d : Fin 7)

theorem duties_cell (k : CK) : (Rd (F := F) m).duties (kcell (c, k)) 0 = dut (some k) := by
  dsimp only [Rd]; rw [if_pos ⟨rfl, rfl⟩, role_csem]
theorem amount_cell (k : CK) : (Rd (F := F) m).amount (kcell (c, k)) 0 d = amt (some k) := by
  dsimp only [Rd]; rw [role_csem]
theorem payload_cell (k : CK) : (Rd (F := F) m).payload (kcell (c, k)) 0 d = pay m c d (some k) := by
  dsimp only [Rd]; rw [role_csem]

theorem duties_bar : (Rd (F := F) m).duties (barCell c) 0 = Finset.univ := duties_cell m c kBar
theorem duties_send : (Rd (F := F) m).duties (sendCell c j) 0 = {0} := duties_cell m c (kSend j)
theorem duties_recv : (Rd (F := F) m).duties (recvCell c j) 0 = {0} := duties_cell m c (kRecv j)
theorem duties_later (g : GSem nD τ sig) : ∀ r, 1 ≤ r → (Rd (F := F) m).duties g r = ∅ :=
  fun r hr => by dsimp only [Rd]; rw [if_neg fun h => by omega]
theorem amount_bar : (Rd (F := F) m).amount (barCell c) 0 d = 1 := amount_cell m c d kBar
theorem amount_send : (Rd (F := F) m).amount (sendCell c j) 0 d = N := amount_cell m c d (kSend j)
theorem amount_recv : (Rd (F := F) m).amount (recvCell c j) 0 d = N := amount_cell m c d (kRecv j)
theorem payload_bar : (Rd (F := F) m).payload (barCell c) 0 d = barPay c d := payload_cell m c d kBar
theorem payload_send : (Rd (F := F) m).payload (sendCell c j) 0 d = sendPay c j := payload_cell m c d (kSend j)
theorem payload_recv : (Rd (F := F) m).payload (recvCell c j) 0 d = recvPay m c j := payload_cell m c d (kRecv j)

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

/-- What a wait for the whole round returns. -/
theorem rest_bar : bigSep ((Rd (F := F) m).duties (barCell c) 0 \ ∅) (fun d => (Rd (F := F) m).payload (barCell c) 0 d)
    = bigSep Finset.univ fun d => barPay c d := by
  rw [Finset.sdiff_empty, duties_bar]; exact BI.bigSep_congr fun d _ => payload_bar m c d
theorem rest_send : bigSep ((Rd (F := F) m).duties (sendCell c j) 0 \ ∅) (fun d => (Rd (F := F) m).payload (sendCell c j) 0 d) = sendPay c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Sched

/-! ## What each device owes at launch; the levels -/

/-- The credits of the blocks a device sends: at the arrival cells of the seven others. -/
def owedRecv (c : Dev nD) : CellTallies nD τ sig Unit := ∑ j : Fin 7, tallyAt (recvCell (fwd c j) j) () N
/-- The units a device signals. -/
def owedBar (c : Dev nD) : CellTallies nD τ sig Unit := ∑ j : Fin 7, tallyAt (barCell (fwd c j)) () 1
def O₀ (c : Dev nD) : CellTallies nD τ sig Unit := owedRecv c + owedBar c

def L (g : GSem nD τ sig) : Finset Unit := if g.1.2 = .tc then {()} else ∅
/-- Barrier cells at 1, arrivals at 2, everything else at 0. -/
def lvK : Option CK → ℕ
  | some (.inl _) => 1
  | some (.inr (.inr _)) => 2
  | _ => 0
def lv (g : GSem nD τ sig) (_ : Unit) : ℕ := lvK (role g.2)

theorem L_of_ne (g : GSem nD τ sig) (h : g.1.2 ≠ .tc) : L g = ∅ := if_neg h
theorem L_tc (c : Dev nD) (sm : SemLoc sig) : L ((c : Thread nD τ), sm) = {()} := if_pos rfl

theorem owedRecv_pos {c : Dev nD} {g : GSem nD τ sig} {u : Unit} (h : 0 < owedRecv c g u) : ∃ j, g = recvCell (fwd c j) j := by
  unfold owedRecv at h
  rw [Finset.sum_apply, Finsupp.finset_sum_apply] at h
  obtain ⟨j, -, hj⟩ := Finset.exists_ne_zero_of_sum_ne_zero (Nat.pos_iff_ne_zero.mp h)
  rw [tallyAt_apply] at hj
  exact ⟨j, by by_contra hn; exact hj (if_neg fun h' => hn h'.1)⟩
theorem owedBar_pos {c : Dev nD} {g : GSem nD τ sig} {u : Unit} (h : 0 < owedBar c g u) : ∃ j, g = barCell (fwd c j) := by
  unfold owedBar at h
  rw [Finset.sum_apply, Finsupp.finset_sum_apply] at h
  obtain ⟨j, -, hj⟩ := Finset.exists_ne_zero_of_sum_ne_zero (Nat.pos_iff_ne_zero.mp h)
  rw [tallyAt_apply] at hj
  exact ⟨j, by by_contra hn; exact hj (if_neg fun h' => hn h'.1)⟩

/-- A wait below the level of everything a device still owes is permitted. -/
theorem mayWait_below (c : Dev nD) (sm : SemLoc sig) (n : ℕ) (hn : lvK (role sm) ≤ n) (O : CellTallies nD τ sig Unit)
    (hO : ∀ g u, 0 < O g u → g.1.2 = .tc ∧ n < lvK (role g.2)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- A sum of arrival credits, of which a device may owe any part while it waits. -/
theorem recv_level {c : Dev nD} {O : CellTallies nD τ sig Unit} (hO : ∀ g u, 0 < O g u → 0 < owedRecv c g u) :
    ∀ g u, 0 < O g u → g.1.2 = .tc ∧ 1 < lvK (role g.2) := fun g u h => by
  obtain ⟨j, rfl⟩ := owedRecv_pos (hO g u h)
  refine ⟨rfl, ?_⟩
  show 1 < lvK (role (.dma (recvS j)))
  rw [role_recv]; exact Nat.lt_succ_self 1

theorem O₀_level {c : Dev nD} : ∀ g u, 0 < O₀ c g u → g.1.2 = .tc ∧ 0 < lvK (role g.2) := fun g u h => by
  unfold O₀ at h
  rw [Pi.add_apply, Finsupp.add_apply] at h
  rcases Nat.eq_zero_or_pos (owedRecv c g u) with h0 | h0
  · rw [h0, zero_add] at h
    obtain ⟨j, rfl⟩ := owedBar_pos h
    refine ⟨rfl, ?_⟩
    show 0 < lvK (role (.reg barS))
    rw [role_bar]; exact Nat.one_pos
  · obtain ⟨j, rfl⟩ := owedRecv_pos h0
    refine ⟨rfl, ?_⟩
    show 0 < lvK (role (.dma (recvS j)))
    rw [role_recv]; exact Nat.succ_pos 1

end Cert.Exchange

end
-- ==== Proof.Steps.lean ====
/-
# The steps of the exchange, each stated once for every peer

One rule for each kind of effect the kernel's body has beside its loads and stores: a local copy started, a local
copy waited for, a signal, the wait for the seven signals, a block sent, a block waited for, a departure waited
for. What the body holds for the peers it has not served yet, and what it got back from those it has, is one
conjunction each, indexed by how many peers are done.
-/
module

public import proofs.«01_k».proof.Proof.Common

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none
abbrev EC : UEmb Counters (MT nD τ sig Unit (Elt F) ℕ UU ℕ) := countersEmb (U := UU)

/-! ## The peers still to serve, and those served -/

abbrev geS (k : ℕ) : Finset (Fin 7) := Finset.univ.filter fun j => k ≤ j.val
abbrev ltS (k : ℕ) : Finset (Fin 7) := Finset.univ.filter fun j => j.val < k

theorem geS_zero : geS 0 = Finset.univ := by decide
theorem ltS_seven : ltS 7 = Finset.univ := by decide
theorem geS_seven : geS 7 = ∅ := by decide
theorem ltS_zero : ltS 0 = ∅ := by decide
theorem geS_insert (j : Fin 7) : geS j.val = insert j (geS (j.val + 1)) := by revert j; decide
theorem ltS_insert (j : Fin 7) : ltS (j.val + 1) = insert j (ltS j.val) := by revert j; decide
theorem not_mem_geS (j : Fin 7) : j ∉ geS (j.val + 1) := by revert j; decide
theorem not_mem_ltS (j : Fin 7) : j ∉ ltS j.val := by revert j; decide

theorem ge_peel {j : Fin 7} {k : ℕ} (h : j.val = k) (Φ : Fin 7 → sProp 𝕄) : bigSep (geS k) Φ = iprop(Φ j ∗ bigSep (geS (k + 1)) Φ) := by
  subst h; rw [geS_insert, BI.bigSep_insert (not_mem_geS j)]; rfl
theorem lt_push {j : Fin 7} {k : ℕ} (h : j.val = k) (Φ : Fin 7 → sProp 𝕄) : bigSep (ltS (k + 1)) Φ = iprop(Φ j ∗ bigSep (ltS k) Φ) := by
  subst h; rw [ltS_insert, BI.bigSep_insert (not_mem_ltS j)]; rfl

/-- What a device owes when it has signalled, or sent to, its first `k` peers. -/
def owedB (c : Dev nD) (k : ℕ) : CellTallies nD τ sig Unit := ∑ j ∈ geS k, tallyAt (barCell (fwd c j)) () 1
def owedR (c : Dev nD) (k : ℕ) : CellTallies nD τ sig Unit := ∑ j ∈ geS k, tallyAt (recvCell (fwd c j) j) () N

theorem owedB_zero (c : Dev nD) : owedB c 0 = owedBar c := by unfold owedB owedBar; rw [geS_zero]
theorem owedR_zero (c : Dev nD) : owedR c 0 = owedRecv c := by unfold owedR owedRecv; rw [geS_zero]
theorem owedB_seven (c : Dev nD) : owedB c 7 = 0 := by unfold owedB; rw [geS_seven, Finset.sum_empty]
theorem owedR_seven (c : Dev nD) : owedR c 7 = 0 := by unfold owedR; rw [geS_seven, Finset.sum_empty]
theorem owedB_peel (c : Dev nD) {j : Fin 7} {k : ℕ} (h : j.val = k) :
    owedB c k = owedB c (k + 1) + tallyAt (barCell (fwd c j)) () 1 := by
  subst h; unfold owedB; rw [geS_insert, Finset.sum_insert (not_mem_geS j), add_comm]
theorem owedR_peel (c : Dev nD) {j : Fin 7} {k : ℕ} (h : j.val = k) :
    owedR c k = owedR c (k + 1) + tallyAt (recvCell (fwd c j) j) () N := by
  subst h; unfold owedR; rw [geS_insert, Finset.sum_insert (not_mem_geS j), add_comm]

/-- Slot `j` of a device's buffer of finished blocks, holding the block `v`. -/
def yHas (c : Dev nD) (j : Fin 8) (v : S256x256.Idx → Elt F .bf16) : sProp 𝕄 := owns (c : Thread nD τ) (ySlot j) fullShare v

/-- A device owing `O`, whatever waits it has recorded. -/
def owesW (c : Dev nD) (O : CellTallies nD τ sig Unit) : sProp 𝕄 := iprop(∃ V : Waits sig Unit, owes (c : Thread nD τ) O V)

variable (K : Dev nD × CK → ℕ)

/-- Every cell's invariant, and that it has reached round 0. -/
def allInv : sProp 𝕄 := bigSep Finset.univ fun ck => iprop(cellInv ER (Rd m) (K ck) (kcell ck) ∗ reached ER (kcell ck) 0)

instance allInv_persistent : BI.Persistent (allInv m K) := by unfold allInv; infer_instance

theorem allInv_at (ck : Dev nD × CK) : allInv m K ⊢ iprop(cellInv ER (Rd m) (K ck) (kcell ck) ∗ reached ER (kcell ck) 0) :=
  bigSep_elim (Finset.mem_univ ck)

/-- What a signal to the peer at distance `j` takes; -/
def sigOne (c : Dev nD) (j : Fin 7) : sProp 𝕄 := iprop(dutyTok ER (barCell (fwd c j)) 0 j ∗ ∃ f, outPts c (fwd c j) f)
/-- what a block sent to it takes; -/
def sndOne (c : Dev nD) (j : Fin 7) : sProp 𝕄 :=
  iprop((dutyTok ER (recvCell (fwd c j) j) 0 0 ∗ dutyTok ER (sendCell c j) 0 0) ∗ ∃ f, outPts (fwd c j) c f)
/-- the credit a departure gives; what the wait for it takes and gives; -/
def depOne (c : Dev nD) (j : Fin 7) : sProp 𝕄 := cred (tallyAt (sendCell c j) () N)
def depPre (c : Dev nD) (j : Fin 7) : sProp 𝕄 := iprop(depOne c j ∗ atPos ER (sendCell c j) 0 ∅ 0)
def depPost (c : Dev nD) (j : Fin 7) : sProp 𝕄 := iprop(atPos ER (sendCell c j) 1 ∅ 0 ∗ sendPay c j)
/-- what the wait for an arrival takes and gives. -/
def arrPre (c : Dev nD) (j : Fin 7) : sProp 𝕄 := iprop(cred (tallyAt (recvCell c j) () N) ∗ atPos ER (recvCell c j) 0 ∅ 0)
def arrPost (c : Dev nD) (j : Fin 7) : sProp 𝕄 := iprop(atPos ER (recvCell c j) 1 ∅ 0 ∗ recvPay m c j)

/-- What the body holds when it has signalled `i` peers, sent to `i` peers, got the blocks of `i` peers, got `i` slots back. -/
def sigSt (c : Dev nD) (i : ℕ) : sProp 𝕄 := iprop(allInv m K ∗ owesW c (owedR c 0 + owedB c i) ∗ bigSep (geS i) (fun j => sigOne c j))
def sndSt (c : Dev nD) (i : ℕ) : sProp 𝕄 :=
  iprop(allInv m K ∗ owesW c (owedR c i) ∗ bigSep (geS i) (fun j => sndOne c j) ∗ bigSep (ltS i) (fun j => depOne (F := F) c j))
def arrSt (c : Dev nD) (i : ℕ) : sProp 𝕄 :=
  iprop(allInv m K ∗ owesW c (owedR c 7) ∗ bigSep (geS i) (fun j => arrPre c j) ∗ bigSep (ltS i) (fun j => arrPost m c j))
def depSt (c : Dev nD) (i : ℕ) : sProp 𝕄 :=
  iprop(allInv m K ∗ owesW c (owedR c 7) ∗ bigSep (geS i) (fun j => depPre (F := F) c j) ∗ bigSep (ltS i) (fun j => depPost (F := F) c j))

/-- All blocks sent, the waits for the arrivals begin: the credits of the departures are kept aside; -/
theorem arr_start (c : Dev nD) :
    iprop(sndSt m K c 7 ∗ bigSep (geS 0) (fun j => arrPre c j))
      ⊢ iprop(arrSt m K c 0 ∗ bigSep Finset.univ (fun j => depOne (F := F) c j)) := by
  unfold sndSt arrSt
  rw [ltS_seven, ltS_zero, bigSep_empty]
  iintro ⟨⟨HI, HO, -, Hd⟩, Ha⟩
  isplitr [Hd]
  · isplitl [HI]; · iexact HI
    isplitl [HO]; · iexact HO
    isplitl [Ha]; · iexact Ha
    iempintro
  iexact Hd

/-- they end with every payload; -/
theorem arr_end (c : Dev nD) :
    arrSt m K c 7 ⊢ iprop(allInv m K ∗ owesW c (owedR c 7)
      ∗ (bigSep Finset.univ fun j => atPos ER (recvCell c j) 1 ∅ 0) ∗ bigSep Finset.univ fun j => recvPay m c j) := by
  unfold arrSt arrPost
  rw [ltS_seven, bigSep_sep']
  iintro ⟨HI, HO, -, Ha, Hp⟩
  isplitl [HI]; · iexact HI
  isplitl [HO]; · iexact HO
  isplitl [Ha] <;> iassumption

/-- and the waits for the departures begin with the credits kept aside, -/
theorem dep_start (c : Dev nD) :
    iprop((allInv m K ∗ owesW c (owedR c 7)) ∗ bigSep Finset.univ (fun j => depOne (F := F) c j)
        ∗ bigSep Finset.univ fun j => atPos ER (sendCell c j) 0 ∅ 0)
      ⊢ depSt m K c 0 := by
  unfold depSt depPre
  rw [geS_zero, ltS_zero, bigSep_empty, bigSep_sep']
  iintro ⟨⟨HI, HO⟩, Hd, Ha⟩
  isplitl [HI]; · iexact HI
  isplitl [HO]; · iexact HO
  isplitl [Hd Ha]; · isplitl [Hd] <;> iassumption
  iempintro

/-- and end with every slot back. -/
theorem dep_end (c : Dev nD) :
    depSt m K c 7 ⊢ iprop(allInv m K ∗ owesW c (owedR c 7)
      ∗ (bigSep Finset.univ fun j => atPos ER (sendCell c j) 1 ∅ 0) ∗ bigSep Finset.univ fun j => sendPay (F := F) c j) := by
  unfold depSt depPost
  rw [ltS_seven, bigSep_sep']
  iintro ⟨HI, HO, -, Ha, Hp⟩
  isplitl [HI]; · iexact HI
  isplitl [HO]; · iexact HO
  isplitl [Ha] <;> iassumption

/-- Every cell of a device, by its kind. -/
theorem bigSep_CK (Φ : CK → sProp 𝕄) :
    bigSep Finset.univ Φ = iprop(Φ kBar ∗ (bigSep Finset.univ fun j => Φ (kSend j)) ∗ bigSep Finset.univ fun j => Φ (kRecv j)) := by
  rw [bigSep_univ_sum, bigSep_univ_sum, bigSep_univ_of_subsingleton ()]; rfl

/-- The round over, every cell closes: its counter at zero is the device's again. -/
theorem close_cells (c : Dev nD) :
    iprop(allInv m K ∗ atPos ER (barCell c) 1 ∅ 0 ∗ (bigSep Finset.univ fun j => atPos ER (sendCell c j) 1 ∅ 0)
        ∗ bigSep Finset.univ fun j => atPos ER (recvCell c j) 1 ∅ 0)
      ⊢ |={Set.univ}=> bigSep Finset.univ fun k : CK => semVal (kcell (c, k)) 0 := by
  refine BIBase.Entails.trans ?_ (bigSep_fupd Finset.univ fun k : CK => (semVal (kcell (c, k)) 0 : sProp 𝕄))
  have h : ∀ k : CK, iprop(allInv m K ∗ atPos ER (kcell (c, k)) 1 ∅ 0) ⊢ (|={Set.univ}=> semVal (kcell (c, k)) 0 : sProp 𝕄) := fun k => by
    iintro ⟨#HI, Ha⟩
    ihave Hx := (allInv_at m K (c, k)) $$ HI
    icases Hx with ⟨#Hi, -⟩
    iapply (Rounds.cell_close ER (Rd m) (κ := K (c, k)) (Set.mem_univ _) (fun h => h) (R := 1) (duties_later m (kcell (c, k))))
    isplitr; · iexact Hi
    iexact Ha
  refine BIBase.Entails.trans ?_ (bigSep_mono fun k _ => h k)
  rw [bigSep_sep']
  refine (show _ ⊢ iprop(allInv m K ∗ bigSep Finset.univ fun k : CK => atPos ER (kcell (c, k)) 1 ∅ 0) from ?_).trans
    (sep_mono_left (BI.bigSep_of_persistent Finset.univ (allInv m K)))
  rw [bigSep_CK]
  exact .rfl

/-- After the barrier the rights to the peers' results, by the distance a block is sent. -/
theorem snd_intro (c : Dev nD) :
    iprop((bigSep Finset.univ fun j : Fin 7 => iprop(dutyTok ER (recvCell (fwd c j) j) 0 0 ∗ dutyTok ER (sendCell c j) 0 0))
        ∗ (bigSep Finset.univ fun d : Fin 7 => barPay (F := F) c d))
      ⊢ bigSep (geS 0) fun j => sndOne c j := by
  rw [geS_zero, BI.bigSep_univ_equiv (Fin.revPerm (n := 7)) (fun d => barPay (F := F) c d), ← bigSep_sep']
  refine bigSep_mono fun j _ => ?_
  unfold sndOne barPay
  rw [show bwd c (Fin.revPerm j) = fwd c j from bwd_rev c j]
  exact BI.Entails.refl _

/-- The devices the kernel computes for its signals and for its blocks are the peers in order. -/
def sigDev : Fin 7 → Dev nD → ℕ := ![k0_dev1, k0_dev2, k0_dev3, k0_dev4, k0_dev5, k0_dev6, k0_dev7]
def sndDev : Fin 7 → Dev nD → ℕ := ![k0_dev8, k0_dev9, k0_dev10, k0_dev11, k0_dev12, k0_dev13, k0_dev14]
theorem sigDev_eq (j : Fin 7) (c : Dev nD) : sigDev j c = (fwd c j).val := by revert j c; decide +kernel
theorem sndDev_eq (j : Fin 7) (c : Dev nD) : sndDev j c = (fwd c j).val := by revert j c; decide +kernel

/-! ## Local copies -/

/-- The pieces of the operands and of their copies. -/
def aPts (c : Dev nD) : sProp 𝕄 := aM.view.loc (c : Thread nD τ) ↦[aM.view.set]{fullShare} X m c
def xPts (c : Dev nD) (f : Buf (Elt F) (xM.view.loc (c : Thread nD τ))) : sProp 𝕄 := xM.view.loc (c : Thread nD τ) ↦[xM.view.set]{fullShare} f
def bPts (c : Dev nD) (q : Fin 4) : sProp 𝕄 := (bQ q).view.loc (c : Thread nD τ) ↦[(bQ q).view.set]{fullShare} W m c
def wPts (c : Dev nD) (q : Fin 4) (f : Buf (Elt F) ((wQ q).view.loc (c : Thread nD τ))) : sProp 𝕄 :=
  (wQ q).view.loc (c : Thread nD τ) ↦[(wQ q).view.set]{fullShare} f

theorem x_landed (c : Dev nD) (fd : Buf (Elt F) (xM.view.loc (c : Thread nD τ))) :
    xM.view.write (Elt F) fd (aM.view.read (Elt F) (X m c)) Finset.univ = X m c := by
  show (View.whole cc0_scratch0).write (Elt F) fd ((View.whole main_arg0).read (Elt F) (X m c)) Finset.univ = X m c
  rw [View.read_whole]; exact View.write_whole_univ _ _ _

theorem w_landed (c : Dev nD) (q : Fin 4) (fd : Buf (Elt F) ((wQ q).view.loc (c : Thread nD τ))) :
    ((wQ q).view.loc (c : Thread nD τ) ↦[(wQ q).view.set]{fullShare} (wQ q).view.write (Elt F) fd ((bQ q).view.read (Elt F) (W m c)) Finset.univ : sProp 𝕄)
      = wPts c q (W m c) := by
  unfold wPts
  refine pointsTo_congr fun i hi => ?_
  obtain ⟨x, -, rfl⟩ := Finset.mem_map.mp hi
  rw [View.write_emb_of_mem _ _ (Finset.mem_univ x)]
  rfl

abbrev xS : DmaSem sig := ⟨1, by decide⟩
abbrev ownS : DmaSem sig := ⟨0, by decide⟩
abbrev wS (q : Fin 4) : DmaSem sig := ⟨2 + q.val, by have := q.isLt; show 2 + q.val < 22; omega⟩

abbrev NX : ℕ := xM.view.dmaCredit
abbrev NW : ℕ := (wQ 0).view.dmaCredit

def xFlight (c : Dev nD) : sProp 𝕄 := Transfers.Flight EC (c : Thread nD τ) (.dma xS) () NX iprop(xPts c (X m c) ∗ aPts m c)
def wFlight (c : Dev nD) (q : Fin 4) : sProp 𝕄 := Transfers.Flight EC (c : Thread nD τ) (.dma (wS q)) () NW iprop(wPts c q (W m c) ∗ bPts m c q)
def ownFlight (c : Dev nD) : sProp 𝕄 :=
  Transfers.Flight EC (c : Thread nD τ) (.dma ownS) () N iprop(outHas c c (blk m c c) ∗ ∃ f, yPts c 0 f)

section Wp

variable (c : Dev nD)

/-- A flight delivers what its delivery entails. -/
theorem flight_mono {sm : SemLoc sig} {n : ℕ} {D D' : sProp 𝕄} (h : D ⊢ D') :
    Transfers.Flight EC (c : Thread nD τ) sm () n D ⊢ Transfers.Flight EC (c : Thread nD τ) sm () n D' := by
  unfold Transfers.Flight
  iintro ⟨⟨%R, HR, %h1, %h2⟩, Hc⟩
  isplitr [Hc]; swap; · iexact Hc
  iexists R
  isplitl [HR]; · iexact HR
  isplitr
  · ipureintro
    intro K
    refine .trans ?_ (h1 K)
    iintro ⟨HR, HK⟩
    isplitl [HR]; · iexact HR
    iintro ⟨Hv, HD⟩
    iapply HK
    isplitl [Hv]; · iexact Hv
    iapply h; iexact HD
  · ipureintro; exact h2

theorem wp_xcopy {α : Type} {Q : α → sProp 𝕄} {k : PUnit → Prog (TpuEff nD τ sig (Elt F) Λ₀ .tc) α}
    {s : DmaSem sig} (hs : s = xS) {hsrc : aM.view.WordExact} {hdst : xM.view.WordExact}
    {hsem : DmaTarget.Typed (nD := nD) .hbm (.dma s) (.here (p := .tc) xM)} :
    iprop(aPts m c ∗ (∃ f, xPts c f) ∗ semVal ((c : Thread nD τ), .dma xS) 0)
      ⊢ iprop((xFlight m c -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.here xM) (.dma s) hsrc hdst hsem) k) Q) := by
  subst hs
  iintro ⟨Ha, ⟨%f, Hx⟩, Hs⟩ Hk
  unfold aPts xPts
  iapply (Transfers.wp_dmaLocal EC 𝒱₀ (c : Thread nD τ) none () NX (show xM.view.amount (.dma xS) = NX from rfl) (View.dmaCredit_pos _ (by decide)) (Finset.Subset.refl _)) $$ [Ha Hx Hs]
  · isplitl [Ha]; · iexact Ha
    isplitl [Hx]; · iexact Hx
    iexact Hs
  iintro Hf
  iapply Hk
  unfold xFlight xPts aPts
  iapply (flight_mono c (D := iprop((xM.view.loc (c : Thread nD τ) ↦[xM.view.set]{fullShare} xM.view.write (Elt F) f (aM.view.read (Elt F) (X m c)) Finset.univ)
    ∗ (aM.view.loc (c : Thread nD τ) ↦[aM.view.set]{fullShare} X m c))) (by rw [x_landed m c f]))
  iexact Hf

theorem wp_wcopy {α : Type} {Q : α → sProp 𝕄} {k : PUnit → Prog (TpuEff nD τ sig (Elt F) Λ₀ .tc) α}
    (q : Fin 4) {s : DmaSem sig} (hs : s = wS q) {src : Memref sig .tc .hbm S512x2048 .f32} (hsr : src = bQ q)
    {dst : Memref sig .tc .vmem S512x2048 .f32} (hds : dst = wQ q) {hsrc : src.view.WordExact} {hdst : dst.view.WordExact}
    {hsem : DmaTarget.Typed (nD := nD) .hbm (.dma s) (.here (p := .tc) dst)} :
    iprop(bPts m c q ∗ (∃ f, wPts c q f) ∗ semVal ((c : Thread nD τ), .dma (wS q)) 0)
      ⊢ iprop((wFlight m c q -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  subst hs hsr hds
  iintro ⟨Ha, ⟨%f, Hx⟩, Hs⟩ Hk
  unfold bPts wPts
  iapply (Transfers.wp_dmaLocal EC 𝒱₀ (c : Thread nD τ) none () NW (show (wQ q).view.amount (.dma (wS q)) = NW from rfl) (View.dmaCredit_pos _ (by decide)) (Finset.Subset.refl _)) $$ [Ha Hx Hs]
  · isplitl [Ha]; · iexact Ha
    isplitl [Hx]; · iexact Hx
    iexact Hs
  iintro Hf
  iapply Hk
  unfold wFlight bPts
  iapply (flight_mono c (D := iprop(((wQ q).view.loc (c : Thread nD τ) ↦[(wQ q).view.set]{fullShare} (wQ q).view.write (Elt F) f ((bQ q).view.read (Elt F) (W m c)) Finset.univ)
    ∗ ((bQ q).view.loc (c : Thread nD τ) ↦[(bQ q).view.set]{fullShare} W m c))) (by rw [w_landed m c q f]))
  iexact Hf

theorem own_landed (fd : Buf (Elt F) ((outBlk c).view.loc (c : Thread nD τ))) (fs : Buf (Elt F) ((ySlot 0).view.loc (c : Thread nD τ)))
    (hv : (ySlot 0).view.read (Elt F) fs = blk m c c) :
    iprop(((outBlk c).view.loc (c : Thread nD τ) ↦[(outBlk c).view.set]{fullShare} (outBlk c).view.write (Elt F) fd ((ySlot 0).view.read (Elt F) fs) Finset.univ)
      ∗ ((ySlot 0).view.loc (c : Thread nD τ) ↦[(ySlot 0).view.set]{fullShare} fs))
    ⊢ (iprop(outHas c c (blk m c c) ∗ ∃ f, yPts c 0 f) : sProp 𝕄) := by
  iintro ⟨H, Hy⟩
  isplitl [H]
  · unfold outHas owns
    iexists _
    isplitr; swap; · iexact H
    ipureintro; rw [View.read_write_univ, hv]
  · unfold yPts; iexists fs; iexact Hy

theorem wp_owncopy {α : Type} {Q : α → sProp 𝕄} {k : PUnit → Prog (TpuEff nD τ sig (Elt F) Λ₀ .tc) α}
    {s : DmaSem sig} (hs : s = ownS) {src : Memref sig .tc .vmem S256x256 .bf16} (hsr : src = ySlot 0)
    {dst : Memref sig .tc .hbm S256x256 .bf16} (hds : dst = outBlk c) {hsrc : src.view.WordExact} {hdst : dst.view.WordExact}
    {hsem : DmaTarget.Typed (nD := nD) .vmem (.dma s) (.here (p := .tc) dst)} :
    iprop(yHas c 0 (blk m c c) ∗ (∃ f, outPts c c f) ∗ semVal ((c : Thread nD τ), .dma ownS) 0)
      ⊢ iprop((ownFlight m c -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  subst hs hsr hds
  unfold yHas owns outPts
  iintro ⟨⟨%fs, %hv, Ha⟩, ⟨%f, Hx⟩, Hs⟩ Hk
  iapply (Transfers.wp_dmaLocal EC 𝒱₀ (c : Thread nD τ) none () N (show (outBlk c).view.amount (.dma ownS) = N from rfl) N_pos (Finset.Subset.refl _)) $$ [Ha Hx Hs]
  · isplitl [Ha]; · iexact Ha
    isplitl [Hx]; · iexact Hx
    iexact Hs
  iintro Hf
  iapply Hk
  unfold ownFlight
  iapply (flight_mono c (own_landed m c f fs hv))
  iexact Hf

theorem mayWait_R (sm : SemLoc sig) (h : lvK (role sm) ≤ 1) : (levAts L lv : sProp 𝕄) ⊢ MayWait (c : Thread nD τ) sm () (owedR c 0) := by
  rw [owedR_zero]; exact mayWait_below c sm 1 h _ (recv_level fun _ _ h => h)

/-- The wait for a local copy, while the blocks are still owed. -/
theorem wp_localwait {α : Type} {Q : α → sProp 𝕄} {k : PUnit → Prog (TpuEff nD τ sig (Elt F) Λ₀ .tc) α}
    {s t : DmaSem sig} (hs : s = t) (ht : lvK (role (.dma t)) ≤ 1) {sp sp' : Space} {sh sh' : Shape} {e e' : EltTy}
    {src : Memref sig .tc sp' sh' e'} {dst : Memref sig .tc sp sh e} {hsrc : src.view.WordExact} {hdst : dst.view.WordExact}
    {n : ℕ} (hn : dst.view.dmaCredit = n) {D : sProp 𝕄} :
    iprop(Transfers.Flight EC (c : Thread nD τ) (.dma t) () n D ∗ sndSt m K c 0 ∗ levAts L lv)
      ⊢ iprop(((D ∗ semVal ((c : Thread nD τ), .dma t) 0 ∗ sndSt m K c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold sndSt owesW
  iintro ⟨Hf, ⟨#HI, ⟨%V, HO⟩, Hrest⟩, Hl⟩ Hk
  iapply (Transfers.wp_waitLocalO EC 𝒱₀ (c : Thread nD τ) none () hn (O := owedR c 0) (W := V)) $$ [Hf HO Hl]
  · isplitl [Hf]; · iexact Hf
    isplitl [HO]; · iexact HO
    iapply (mayWait_R c (.dma s) ht); iexact Hl
  iintro ⟨HD, Hs, HO⟩
  iapply Hk
  isplitl [HD]; · iexact HD
  isplitl [Hs]; · iexact Hs
  isplitr; · iexact HI
  isplitl [HO]; · iexists _; iexact HO
  iexact Hrest

/-- The wait for the local copy of the own block, with nothing owed. -/
theorem wp_ownwait {α : Type} {Q : α → sProp 𝕄} {k : PUnit → Prog (TpuEff nD τ sig (Elt F) Λ₀ .tc) α}
    {s : DmaSem sig} (hs : s = ownS) {sp sp' : Space} {sh sh' : Shape} {e e' : EltTy}
    {src : Memref sig .tc sp' sh' e'} {dst : Memref sig .tc sp sh e} {hsrc : src.view.WordExact} {hdst : dst.view.WordExact}
    (hn : dst.view.dmaCredit = N) :
    iprop(ownFlight m c ∗ owesW c (owedR c 7))
      ⊢ iprop((((outHas c c (blk m c c) ∗ ∃ f, yPts c 0 f) ∗ semVal ((c : Thread nD τ), .dma ownS) 0 ∗ owesW c (owedR c 7)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold owesW
  iintro ⟨Hf, ⟨%V, HO⟩⟩ Hk
  unfold ownFlight
  iapply (Transfers.wp_waitLocalO EC 𝒱₀ (c : Thread nD τ) none () hn (O := owedR c 7) (W := V)) $$ [Hf HO]
  · isplitl [Hf]; · iexact Hf
    isplitl [HO]; · iexact HO
    rw [owedR_seven, MayWait_zero]; iempintro
  iintro ⟨HD, Hs, HO⟩
  iapply Hk
  isplitl [HD]; · iexact HD
  isplitl [Hs]; · iexact Hs
  iexists _; iexact HO

/-! ## The barrier -/

/-- A signal to the peer at distance `j + 1`: the right to its rows of this device's result goes with it. -/
theorem wp_sig {α : Type} {Q : α → sProp 𝕄} {k : PUnit → Prog (TpuEff nD τ sig (Elt F) Λ₀ .tc) α}
    (j : Fin 7) (i : ℕ) (hj : j.val = i) {n : Dev nD} (hn : n = fwd c j) :
    sigSt m K c i
      ⊢ iprop((sigSt m K c (i + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold sigSt
  rw [ge_peel hj, owedB_peel c hj]
  unfold owesW
  iintro ⟨#HI, ⟨%V, HO⟩, Hs, Hrest⟩ Hk
  unfold sigOne
  icases Hs with ⟨Ht, Hp⟩
  ihave Hc := (allInv_at m K (fwd c j, kBar)) $$ HI
  icases Hc with ⟨#Hi, #Hr⟩
  iapply (Rounds.wp_signal 𝒱₀ ER (Rd m) (c : Thread nD τ) none (dst := (fwd c j : Thread nD τ)) (κ := K (fwd c j, kBar))
      (d := j) (by rw [duties_bar]; exact Finset.mem_univ _) (amount_bar m (fwd c j) j) () (owedR c 0 + owedB c (i + 1)) (by rw [add_assoc]))
    $$ [HO Ht Hp]
  · isplitr; · iexact Hi
    isplitl [HO]; · iexact HO
    isplitl [Ht]; · iexact Ht
    isplitl [Hp]
    · rw [payload_bar]; unfold barPay; rw [bwd_fwd]; iexact Hp
    iexact Hr
  iintro HO
  iapply Hk
  isplitr; · iexact HI
  isplitl [HO]; · iexists V; iexact HO
  iexact Hrest

/-- The wait for the seven signals: the rights to this device's rows of the seven other results. -/
theorem wp_barwait {α : Type} {Q : α → sProp 𝕄} {k : PUnit → Prog (TpuEff nD τ sig (Elt F) Λ₀ .tc) α} :
    iprop(sigSt m K c 7 ∗ levAts L lv ∗ cred (tallyAt (barCell c) () 7) ∗ atPos ER (barCell c) 0 ∅ 0
        ∗ bigSep Finset.univ fun j : Fin 7 => iprop(dutyTok ER (recvCell (fwd c j) j) 0 0 ∗ dutyTok ER (sendCell c j) 0 0))
      ⊢ iprop(((sndSt m K c 0 ∗ atPos ER (barCell c) 1 ∅ 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold sigSt
  rw [owedB_seven, add_zero]
  unfold owesW
  iintro ⟨⟨#HI, ⟨%V, HO⟩, -⟩, Hl, Hc, Ha, Ht⟩ Hk
  ihave Hx := (allInv_at m K (c, kBar)) $$ HI
  icases Hx with ⟨#Hi, -⟩
  iapply (Rounds.wp_wait_rest_token 𝒱₀ ER (Rd m) (c : Thread nD τ) none (κ := K (c, kBar))
      (wpE_semWait_eq 𝒱₀ (c : Thread nD τ) none Set.univ) (Set.mem_univ _) () (O := owedR c 0) (W := V) (R := 0) (m := 0) (T := ∅)
      (by rw [expect_bar])) $$ [HO Hl Hc Ha]
  · isplitr; · iexact Hi
    isplitl [Hc]; · iexact Hc
    isplitl [HO]; · iexact HO
    isplitl [Hl]; · iapply (mayWait_R c (.reg barS) (by rw [role_bar]; exact Nat.le_refl 1)); iexact Hl
    iexact Ha
  iintro ⟨HO, Ha, -, Hp⟩
  ihave Hp' := (Entails.of_eq (rest_bar m c)) $$ Hp
  iapply Hk
  isplitr [Ha]; swap; · iexact Ha
  unfold sndSt
  rw [ltS_zero, bigSep_empty]
  isplitr; · iexact HI
  isplitl [HO]; · unfold owesW; iexists _; iexact HO
  isplitl [Ht Hp']
  · iapply (snd_intro c); isplitl [Ht] <;> iassumption
  iempintro

/-! ## The blocks -/

/-- The finished block for the peer at distance `j + 1` is sent to it. -/
theorem wp_snd {α : Type} {Q : α → sProp 𝕄} {k : PUnit → Prog (TpuEff nD τ sig (Elt F) Λ₀ .tc) α}
    (j : Fin 7) (i : ℕ) (hj : j.val = i) {n : Dev nD} (hn : n = fwd c j) {sS sR : DmaSem sig} (hsS : sS = sendS j) (hsR : sR = recvS j)
    {src : Memref sig .tc .vmem S256x256 .bf16} (hsr : src = ySlot j.succ)
    {dst : Memref sig (Dev.tc n : Thread nD τ).2.kind .hbm S256x256 .bf16} (hds : dst = outBlk c)
    {hsc : dst.view.ref.isScScratch = false} {hsrc : src.view.WordExact} {hdst : dst.view.WordExact}
    {hsem : DmaTarget.Typed .vmem (.dma sR) (.remote (Dev.tc n : Thread nD τ) dst (.dma sS) hsc)} :
    iprop(sndSt m K c i ∗ yHas c j.succ (blk m c (fwd c j)))
      ⊢ iprop((sndSt m K c (i + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsS hsR hsr hds
  unfold sndSt
  rw [ge_peel hj, lt_push hj, owedR_peel c hj]
  unfold owesW
  iintro ⟨⟨#HI, ⟨%V, HO⟩, ⟨Hs, Hrest⟩, Hd⟩, Hy⟩ Hk
  unfold yHas owns
  icases Hy with ⟨%fs, %hv, Hy⟩
  unfold sndOne
  icases Hs with ⟨⟨HtR, HtS⟩, ⟨%fd, Ho⟩⟩
  ihave Hc := (allInv_at m K (c, kSend j)) $$ HI
  icases Hc with ⟨#HiS, #HrS⟩
  ihave Hc' := (allInv_at m K (fwd c j, kRecv j)) $$ HI
  icases Hc' with ⟨#HiR, #HrR⟩
  unfold outPts
  iapply (Rounds.wp_send_pointsTo 𝒱₀ ER (Rd m) (c : Thread nD τ) none (κ₁ := K (c, kSend j)) (κ₂ := K (fwd c j, kRecv j))
      (r₁ := 0) (r₂ := 0) (d₁ := 0) (d₂ := 0) (fs := fs) (fd := fd)
      (by rw [duties_send]; exact Finset.mem_singleton_self _) (by rw [duties_recv]; exact Finset.mem_singleton_self _)
      () () N rfl (amount_send m c j 0) (amount_recv m (fwd c j) j 0) (owedR c (i + 1)) rfl (W := V)
      (by rw [payload_send]; unfold sendPay yPts; iintro H; iexists fs; iexact H)
      (by
        rw [payload_recv]; unfold recvPay; rw [bwd_fwd]; unfold outHas owns
        iintro H; iexists _
        isplitr; swap; · iexact H
        ipureintro; rw [View.read_write_univ, hv]))
    $$ [HO Hy Ho HtR HtS]
  · isplitr; · iexact HiS
    isplitr; · iexact HiR
    isplitl [Hy]; · iexact Hy
    isplitl [Ho]; · iexact Ho
    isplitl [HO]; · iexact HO
    isplitl [HtS]; · iexact HtS
    isplitr; · iexact HrS
    isplitl [HtR]; · iexact HtR
    iexact HrR
  iintro ⟨Hcr, HO⟩
  iapply Hk
  isplitr; · iexact HI
  isplitl [HO]; · iexists V; iexact HO
  isplitl [Hrest]; · iexact Hrest
  isplitl [Hcr]; · unfold depOne; iexact Hcr
  iexact Hd

/-- The wait for the block from the device `j + 1` places before. -/
theorem wp_arr {α : Type} {Q : α → sProp 𝕄} {k : PUnit → Prog (TpuEff nD τ sig (Elt F) Λ₀ .tc) α}
    (j : Fin 7) (i : ℕ) (hj : j.val = i) {s : DmaSem sig} (hs : s = recvS j) {sp sp' : Space} {sh sh' : Shape} {e e' : EltTy}
    {src : Memref sig .tc sp' sh' e'} {dst : Memref sig .tc sp sh e} {hsrc : src.view.WordExact} {hdst : dst.view.WordExact}
    (hN : dst.view.dmaCredit = N) :
    arrSt m K c i
      ⊢ iprop((arrSt m K c (i + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold arrSt
  rw [ge_peel hj, lt_push hj, owedR_seven]
  unfold owesW
  iintro ⟨#HI, ⟨%V, HO⟩, ⟨Hs, Hrest⟩, Hd⟩ Hk
  unfold arrPre
  icases Hs with ⟨Hc, Ha⟩
  ihave Hx := (allInv_at m K (c, kRecv j)) $$ HI
  icases Hx with ⟨#Hi, -⟩
  iapply (Rounds.wp_wait_rest_token 𝒱₀ ER (Rd m) (c : Thread nD τ) none (κ := K (c, kRecv j))
      (wpE_waitDma2_eq 𝒱₀ (c : Thread nD τ) none Set.univ) (Set.mem_univ _) () (O := 0) (W := V) (R := 0) (m := 0) (T := ∅)
      (by rw [Nat.zero_add, expect_recv, hN])) $$ [HO Hc Ha]
  · isplitr; · iexact Hi
    rw [hN]
    isplitl [Hc]; · iexact Hc
    isplitl [HO]; · iexact HO
    isplitr; · rw [MayWait_zero]; iempintro
    iexact Ha
  iintro ⟨HO, Ha, -, Hp⟩
  ihave Hp' := (Entails.of_eq (rest_recv m c j)) $$ Hp
  iapply Hk
  isplitr; · iexact HI
  isplitl [HO]; · iexists _; iexact HO
  isplitl [Hrest]; · iexact Hrest
  isplitr [Hd]; swap; · iexact Hd
  unfold arrPost
  isplitl [Ha]; · iexact Ha
  iexact Hp'

/-- The wait for the departure of the block sent to the peer at distance `j + 1`. -/
theorem wp_dep {α : Type} {Q : α → sProp 𝕄} {k : PUnit → Prog (TpuEff nD τ sig (Elt F) Λ₀ .tc) α}
    (j : Fin 7) (i : ℕ) (hj : j.val = i) {s : DmaSem sig} (hs : s = sendS j) {sp sp' : Space} {sh sh' : Shape} {e e' : EltTy}
    {src : Memref sig .tc sp' sh' e'} {dst : Memref sig .tc sp sh e} {hsrc : src.view.WordExact} {hdst : dst.view.WordExact}
    (hN : dst.view.dmaCredit = N) :
    depSt m K c i
      ⊢ iprop((depSt m K c (i + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold depSt
  rw [ge_peel hj, lt_push hj, owedR_seven]
  unfold owesW
  iintro ⟨#HI, ⟨%V, HO⟩, ⟨Hs, Hrest⟩, Hd⟩ Hk
  unfold depPre depOne
  icases Hs with ⟨Hc, Ha⟩
  ihave Hx := (allInv_at m K (c, kSend j)) $$ HI
  icases Hx with ⟨#Hi, -⟩
  iapply (Rounds.wp_wait_rest_token 𝒱₀ ER (Rd m) (c : Thread nD τ) none (κ := K (c, kSend j))
      (wpE_waitDma2_eq 𝒱₀ (c : Thread nD τ) none Set.univ) (Set.mem_univ _) () (O := 0) (W := V) (R := 0) (m := 0) (T := ∅)
      (by rw [Nat.zero_add, expect_send, hN])) $$ [HO Hc Ha]
  · isplitr; · iexact Hi
    rw [hN]
    isplitl [Hc]; · iexact Hc
    isplitl [HO]; · iexact HO
    isplitr; · rw [MayWait_zero]; iempintro
    iexact Ha
  iintro ⟨HO, Ha, -, Hp⟩
  ihave Hp' := (Entails.of_eq (rest_send m c j)) $$ Hp
  iapply Hk
  isplitr; · iexact HI
  isplitl [HO]; · iexists _; iexact HO
  isplitl [Hrest]; · iexact Hrest
  isplitr [Hd]; swap; · iexact Hd
  unfold depPost
  isplitl [Ha]; · iexact Ha
  iexact Hp'

/-! ## Where the loads fall -/

/-- A tile of `w` lies in its quarter of the rows. -/
theorem wsub (q : Fin 4) (p : Dev nD) {off : Fin 2 → Nat} (h : off = ![512 * q.val, 256 * p.val])
    (inb : ∀ a, off a + S512x256.size a ≤ S2048x2048.size a) :
    (wM.access (Rect.unit (s := S2048x2048) off S512x256.size inb)).set ⊆ (wQ q).view.set := by
  subst h
  show (wM.view.slice (Rect.unit (s := S2048x2048) ![512 * q.val, 256 * p.val] S512x256.size inb)).set ⊆ (wM.view.slice (qRect q)).set
  rw [View.set_slice, View.set_slice]
  refine Finset.map_subset_map.mpr fun i hi => ?_
  rw [Rect.mem_set_unit] at hi ⊢
  intro a
  have := hi a
  match a with
  | ⟨0, _⟩ => exact this
  | ⟨1, _⟩ =>
    have h2 : (i 1).val < 2048 := (i 1).isLt
    exact ⟨Nat.zero_le _, by show (i 1).val < 0 + 2048; omega⟩

/-- The statement of it, at a tile given by its offsets. -/
abbrev InQ (q : Fin 4) (off : Fin 2 → Nat) (inb : ∀ a, off a + S512x256.size a ≤ S2048x2048.size a) : Prop :=
  (wM.access (Rect.unit (s := S2048x2048) off S512x256.size inb)).set ⊆ (wQ q).view.set

/-- The tiles the kernel computes the offsets of. -/
def wOff (q : Fin 4) (c : Dev nD) (j : BitVec 32) : Fin 2 → Nat := (![k0_off1, k0_off2, k0_off3, k0_off4] : Fin 4 → Dev nD → BitVec 32 → Fin 2 → Nat) q c j
theorem wOff_zero (q : Fin 4) (c : Dev nD) (hq : q ≠ 3) : wOff q c 0#32 = ![512 * q.val, 256 * c.val] := by revert q c; decide +kernel
theorem wOff_succ (q : Fin 4) (c : Dev nD) (j : Fin 7) : wOff q c (BitVec.ofNat 32 (j.val + 1)) = ![512 * q.val, 256 * (fwd c j).val] := by
  revert q c j; decide +kernel

/-- The tile of `w` a load reads, by the offsets of its tile. -/
theorem wPc_of (c : Dev nD) (q : Fin 4) (p : Dev nD) {off : Fin 2 → Nat} (h : off = ![512 * q.val, 256 * p.val])
    (inb : ∀ a, off a + S512x256.size a ≤ S2048x2048.size a) :
    wM.view.readAt (Elt F) (Rect.unit (s := S2048x2048) off S512x256.size inb).toLoadRect (W m c) = wPc m c q p := by
  subst h; rfl

/-- The four products summed and finished, by the offsets of their tiles of `w`. -/
theorem blk3_of (c p : Dev nD) {o0 o1 o2 o3 : Fin 2 → Nat}
    (inb0 : ∀ a, o0 a + S512x256.size a ≤ S2048x2048.size a) (inb1 : ∀ a, o1 a + S512x256.size a ≤ S2048x2048.size a)
    (inb2 : ∀ a, o2 a + S512x256.size a ≤ S2048x2048.size a) (inb3 : ∀ a, o3 a + S512x256.size a ≤ S2048x2048.size a)
    (h0 : o0 = ![512 * (0 : Fin 4).val, 256 * p.val]) (h1 : o1 = ![512 * (1 : Fin 4).val, 256 * p.val])
    (h2 : o2 = ![512 * (2 : Fin 4).val, 256 * p.val]) (h3 : o3 = ![512 * (3 : Fin 4).val, 256 * p.val]) :
    k0_pay31 (k0_pay9 (xPc m c 2) (wM.view.readAt (Elt F) (Rect.unit (s := S2048x2048) o2 S512x256.size inb2).toLoadRect (W m c))
        (k0_pay9 (xPc m c 1) (wM.view.readAt (Elt F) (Rect.unit (s := S2048x2048) o1 S512x256.size inb1).toLoadRect (W m c))
          (k0_pay1 (xPc m c 0) (wM.view.readAt (Elt F) (Rect.unit (s := S2048x2048) o0 S512x256.size inb0).toLoadRect (W m c)))))
      (xPc m c 3) (wM.view.readAt (Elt F) (Rect.unit (s := S2048x2048) o3 S512x256.size inb3).toLoadRect (W m c)) = blk3 m c p := by
  rw [wPc_of m c 0 p h0, wPc_of m c 1 p h1, wPc_of m c 2 p h2, wPc_of m c 3 p h3]
  rfl

/-- A slot the finished block was stored in holds it. -/
theorem y_holds (c p : Dev nD) (j : Fin 8) {off : Fin 3 → Nat} (inb : ∀ a, off a + S1x256x256.size a ≤ S8x256x256.size a)
    (h : off = ![j.val, 0, 0]) (f : Buf (Elt F) ((ySlot j).view.loc (c : Thread nD τ))) {w : FVec F S1x256x256 .bf16} (hw : w = blk3 m c p) :
    (ySlot j).view.read (Elt F) (View.write (Elt F) (yM.access (Rect.unit (s := S8x256x256) off S1x256x256.size inb)) f w Finset.univ) = blk m c p := by
  subst h hw
  funext i
  exact congrFun (View.read_write_univ (v := (ySlice j).view) f (blk3 m c p)) (Shape.reshapeEquiv squeezes_S1x256x256_S256x256.numel_eq i)

end Wp

end Cert.Exchange

end
-- ==== Proof.Body.lean ====
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- Slot `j` of a device's buffer of sums. -/
def pPts (c : Dev nD) (j : Fin 8) (f : Buf (Elt F) ((pSlice j).view.loc (c : Thread nD τ))) : sProp 𝕄 :=
  (pSlice j).view.loc (c : Thread nD τ) ↦[(pSlice j).view.set]{fullShare} f

/-- What the body starts from. -/
def bodyIn (c : Dev nD) : sProp 𝕄 :=
  iprop(sigSt m K c 0 ∗ levAts L lv
    ∗ (bigSep Finset.univ fun j : Fin 7 => iprop(dutyTok ER (recvCell (fwd c j) j) 0 0 ∗ dutyTok ER (sendCell c j) 0 0))
    ∗ bigSep (geS 0) (fun j => arrPre c j)
    ∗ (bigSep Finset.univ fun j : Fin 7 => atPos ER (sendCell c j) 0 ∅ 0)
    ∗ cred (tallyAt (barCell c) () 7) ∗ atPos ER (barCell c) 0 ∅ 0
    ∗ aPts m c ∗ (bPts m c 0 ∗ bPts m c 1 ∗ bPts m c 2 ∗ bPts m c 3)
    ∗ (∃ f, xPts c f) ∗ ((∃ f, wPts c 0 f) ∗ (∃ f, wPts c 1 f) ∗ (∃ f, wPts c 2 f) ∗ (∃ f, wPts c 3 f))
    ∗ (semVal ((c : Thread nD τ), .dma ownS) 0 ∗ semVal ((c : Thread nD τ), .dma xS) 0 ∗ semVal ((c : Thread nD τ), .dma (wS 0)) 0
      ∗ semVal ((c : Thread nD τ), .dma (wS 1)) 0 ∗ semVal ((c : Thread nD τ), .dma (wS 2)) 0 ∗ semVal ((c : Thread nD τ), .dma (wS 3)) 0)
    ∗ (∃ f, outPts c c f)
    ∗ ((∃ f, yPts c 0 f) ∗ (∃ f, yPts c 1 f) ∗ (∃ f, yPts c 2 f) ∗ (∃ f, yPts c 3 f) ∗ (∃ f, yPts c 4 f) ∗ (∃ f, yPts c 5 f) ∗ (∃ f, yPts c 6 f) ∗ (∃ f, yPts c 7 f))
    ∗ ((∃ f, pPts c 0 f) ∗ (∃ f, pPts c 1 f) ∗ (∃ f, pPts c 2 f) ∗ (∃ f, pPts c 3 f) ∗ (∃ f, pPts c 4 f) ∗ (∃ f, pPts c 5 f) ∗ (∃ f, pPts c 6 f) ∗ (∃ f, pPts c 7 f)))

/-- What it ends with. -/
def bodyOut (c : Dev nD) : sProp 𝕄 :=
  iprop(owesW c (owedR c 7)
    ∗ aPts m c ∗ (bPts m c 0 ∗ bPts m c 1 ∗ bPts m c 2 ∗ bPts m c 3)
    ∗ (∃ f, xPts c f) ∗ ((∃ f, wPts c 0 f) ∗ (∃ f, wPts c 1 f) ∗ (∃ f, wPts c 2 f) ∗ (∃ f, wPts c 3 f))
    ∗ (semVal ((c : Thread nD τ), .dma ownS) 0 ∗ semVal ((c : Thread nD τ), .dma xS) 0 ∗ semVal ((c : Thread nD τ), .dma (wS 0)) 0
      ∗ semVal ((c : Thread nD τ), .dma (wS 1)) 0 ∗ semVal ((c : Thread nD τ), .dma (wS 2)) 0 ∗ semVal ((c : Thread nD τ), .dma (wS 3)) 0)
    ∗ (bigSep Finset.univ fun k : CK => semVal (kcell (c, k)) 0)
    ∗ (outHas c c (blk m c c) ∗ bigSep Finset.univ fun j => recvPay m c j)
    ∗ ((∃ f, yPts c 0 f) ∗ bigSep Finset.univ fun j => sendPay (F := F) c j)
    ∗ ((∃ f, pPts c 0 f) ∗ (∃ f, pPts c 1 f) ∗ (∃ f, pPts c 2 f) ∗ (∃ f, pPts c 3 f) ∗ (∃ f, pPts c 4 f) ∗ (∃ f, pPts c 5 f) ∗ (∃ f, pPts c 6 f) ∗ (∃ f, pPts c 7 f)))

set_option pp.deepTerms.threshold 4 in
set_option maxHeartbeats 4000000 in
set_option maxRecDepth 65536 in
theorem sound_body (c : Dev nD) (Kt : PUnit → sProp 𝕄) :
    iprop(bodyIn m K c ∗ (bodyOut m c -∗ Kt ⟨⟩))
      ⊢ wp frame (wpE (defs₀ (F := F)) 𝒱₀ c none) Set.univ (bodyAt0 t0_0) Kt := by
  unfold bodyIn bodyAt0
  iintro ⟨⟨HS, #Hlev, Htok, Harr, HatS, HcB, HatB, Ha, ⟨Hb0, Hb1, Hb2, Hb3⟩, Hx, ⟨Hw0, Hw1, Hw2, Hw3⟩,
    ⟨Hso, Hsx, Hs0, Hs1, Hs2, Hs3⟩, Hout, ⟨⟨%fy0, Hy0⟩, ⟨%fy1, Hy1⟩, ⟨%fy2, Hy2⟩, ⟨%fy3, Hy3⟩, ⟨%fy4, Hy4⟩, ⟨%fy5, Hy5⟩, ⟨%fy6, Hy6⟩, ⟨%fy7, Hy7⟩⟩,
    ⟨⟨%fp0, Hp0⟩, ⟨%fp1, Hp1⟩, ⟨%fp2, Hp2⟩, ⟨%fp3, Hp3⟩, ⟨%fp4, Hp4⟩, ⟨%fp5, Hp5⟩, ⟨%fp6, Hp6⟩, ⟨%fp7, Hp7⟩⟩⟩, Hk⟩
  sl_exec
  iapply (wp_xcopy m c (by rfl)) $$ [Ha Hx Hsx]
  · isplitl [Ha]; · iexact Ha
    isplitl [Hx]; · iexact Hx
    iexact Hsx
  iintro Hfx
  sl_exec
  iapply (wp_wcopy m c 0 (by rfl) (by rfl) (by rfl)) $$ [Hb0 Hw0 Hs0]
  · isplitl [Hb0]; · iexact Hb0
    isplitl [Hw0]; · iexact Hw0
    iexact Hs0
  iintro Hf0
  sl_exec
  iapply (wp_wcopy m c 1 (by rfl) (by rfl) (by rfl)) $$ [Hb1 Hw1 Hs1]
  · isplitl [Hb1]; · iexact Hb1
    isplitl [Hw1]; · iexact Hw1
    iexact Hs1
  iintro Hf1
  sl_exec
  iapply (wp_wcopy m c 2 (by rfl) (by rfl) (by rfl)) $$ [Hb2 Hw2 Hs2]
  · isplitl [Hb2]; · iexact Hb2
    isplitl [Hw2]; · iexact Hw2
    iexact Hs2
  iintro Hf2
  sl_exec
  iapply (wp_wcopy m c 3 (by rfl) (by rfl) (by rfl)) $$ [Hb3 Hw3 Hs3]
  · isplitl [Hb3]; · iexact Hb3
    isplitl [Hw3]; · iexact Hw3
    iexact Hs3
  iintro Hf3
  sl_exec
  iapply (wp_sig m K c 0 0 rfl (Fin.ext (sigDev_eq 0 c))) $$ HS
  iintro HS
  sl_exec
  iapply (wp_sig m K c 1 1 rfl (Fin.ext (sigDev_eq 1 c))) $$ HS
  iintro HS
  sl_exec
  iapply (wp_sig m K c 2 2 rfl (Fin.ext (sigDev_eq 2 c))) $$ HS
  iintro HS
  sl_exec
  iapply (wp_sig m K c 3 3 rfl (Fin.ext (sigDev_eq 3 c))) $$ HS
  iintro HS
  sl_exec
  iapply (wp_sig m K c 4 4 rfl (Fin.ext (sigDev_eq 4 c))) $$ HS
  iintro HS
  sl_exec
  iapply (wp_sig m K c 5 5 rfl (Fin.ext (sigDev_eq 5 c))) $$ HS
  iintro HS
  sl_exec
  iapply (wp_sig m K c 6 6 rfl (Fin.ext (sigDev_eq 6 c))) $$ HS
  iintro HS
  sl_exec
  iapply (wp_barwait m K c) $$ [HS HcB HatB Htok]
  · isplitl [HS]; · iexact HS
    isplitr; · iexact Hlev
    isplitl [HcB]; · iexact HcB
    isplitl [HatB] <;> iassumption
  iintro ⟨HS, HatB⟩
  sl_exec
  iapply (wp_localwait m K c (t := xS) (by rfl) (by decide +kernel) (by rfl)) $$ [Hfx HS]
  · isplitl [Hfx]; · unfold xFlight; iexact Hfx
    isplitl [HS]; · iexact HS
    iexact Hlev
  iintro ⟨⟨Hx, Ha⟩, Hsx, HS⟩
  sl_exec
  iapply (wp_localwait m K c (t := wS 0) (by rfl) (by decide +kernel) (by rfl)) $$ [Hf0 HS]
  · isplitl [Hf0]; · unfold wFlight; iexact Hf0
    isplitl [HS]; · iexact HS
    iexact Hlev
  iintro ⟨⟨Hw0, Hb0⟩, Hs0, HS⟩
  unfold xPts wPts pPts yPts
  have h00 : InQ 0 (k0_off1 c 0#32) (k0_off1_inb c 0) := wsub 0 c (wOff_zero 0 c (by decide)) _
  have h01 : InQ 0 (k0_off1 c 1#32) (k0_off1_inb c 1) := wsub 0 (fwd c 0) (wOff_succ 0 c 0) _
  have h02 : InQ 0 (k0_off1 c 2#32) (k0_off1_inb c 2) := wsub 0 (fwd c 1) (wOff_succ 0 c 1) _
  have h03 : InQ 0 (k0_off1 c 3#32) (k0_off1_inb c 3) := wsub 0 (fwd c 2) (wOff_succ 0 c 2) _
  have h04 : InQ 0 (k0_off1 c 4#32) (k0_off1_inb c 4) := wsub 0 (fwd c 3) (wOff_succ 0 c 3) _
  have h05 : InQ 0 (k0_off1 c 5#32) (k0_off1_inb c 5) := wsub 0 (fwd c 4) (wOff_succ 0 c 4) _
  have h06 : InQ 0 (k0_off1 c 6#32) (k0_off1_inb c 6) := wsub 0 (fwd c 5) (wOff_succ 0 c 5) _
  have h07 : InQ 0 (k0_off1 c 7#32) (k0_off1_inb c 7) := wsub 0 (fwd c 6) (wOff_succ 0 c 6) _
  sl_exec
  clear h00 h01 h02 h03 h04 h05 h06 h07
  iapply (wp_localwait m K c (t := wS 1) (by rfl) (by decide +kernel) (by rfl)) $$ [Hf1 HS]
  · isplitl [Hf1]; · unfold wFlight; iexact Hf1
    isplitl [HS]; · iexact HS
    iexact Hlev
  iintro ⟨⟨Hw1, Hb1⟩, Hs1, HS⟩
  unfold wPts
  have h10 : InQ 1 (k0_off2 c 0#32) (k0_off2_inb c 0) := wsub 1 c (wOff_zero 1 c (by decide)) _
  have h11 : InQ 1 (k0_off2 c 1#32) (k0_off2_inb c 1) := wsub 1 (fwd c 0) (wOff_succ 1 c 0) _
  have h12 : InQ 1 (k0_off2 c 2#32) (k0_off2_inb c 2) := wsub 1 (fwd c 1) (wOff_succ 1 c 1) _
  have h13 : InQ 1 (k0_off2 c 3#32) (k0_off2_inb c 3) := wsub 1 (fwd c 2) (wOff_succ 1 c 2) _
  have h14 : InQ 1 (k0_off2 c 4#32) (k0_off2_inb c 4) := wsub 1 (fwd c 3) (wOff_succ 1 c 3) _
  have h15 : InQ 1 (k0_off2 c 5#32) (k0_off2_inb c 5) := wsub 1 (fwd c 4) (wOff_succ 1 c 4) _
  have h16 : InQ 1 (k0_off2 c 6#32) (k0_off2_inb c 6) := wsub 1 (fwd c 5) (wOff_succ 1 c 5) _
  have h17 : InQ 1 (k0_off2 c 7#32) (k0_off2_inb c 7) := wsub 1 (fwd c 6) (wOff_succ 1 c 6) _
  sl_exec
  clear h10 h11 h12 h13 h14 h15 h16 h17
  iapply (wp_localwait m K c (t := wS 2) (by rfl) (by decide +kernel) (by rfl)) $$ [Hf2 HS]
  · isplitl [Hf2]; · unfold wFlight; iexact Hf2
    isplitl [HS]; · iexact HS
    iexact Hlev
  iintro ⟨⟨Hw2, Hb2⟩, Hs2, HS⟩
  unfold wPts
  have h20 : InQ 2 (k0_off3 c 0#32) (k0_off3_inb c 0) := wsub 2 c (wOff_zero 2 c (by decide)) _
  have h21 : InQ 2 (k0_off3 c 1#32) (k0_off3_inb c 1) := wsub 2 (fwd c 0) (wOff_succ 2 c 0) _
  have h22 : InQ 2 (k0_off3 c 2#32) (k0_off3_inb c 2) := wsub 2 (fwd c 1) (wOff_succ 2 c 1) _
  have h23 : InQ 2 (k0_off3 c 3#32) (k0_off3_inb c 3) := wsub 2 (fwd c 2) (wOff_succ 2 c 2) _
  have h24 : InQ 2 (k0_off3 c 4#32) (k0_off3_inb c 4) := wsub 2 (fwd c 3) (wOff_succ 2 c 3) _
  have h25 : InQ 2 (k0_off3 c 5#32) (k0_off3_inb c 5) := wsub 2 (fwd c 4) (wOff_succ 2 c 4) _
  have h26 : InQ 2 (k0_off3 c 6#32) (k0_off3_inb c 6) := wsub 2 (fwd c 5) (wOff_succ 2 c 5) _
  have h27 : InQ 2 (k0_off3 c 7#32) (k0_off3_inb c 7) := wsub 2 (fwd c 6) (wOff_succ 2 c 6) _
  sl_exec
  clear h20 h21 h22 h23 h24 h25 h26 h27
  iapply (wp_localwait m K c (t := wS 3) (by rfl) (by decide +kernel) (by rfl)) $$ [Hf3 HS]
  · isplitl [Hf3]; · unfold wFlight; iexact Hf3
    isplitl [HS]; · iexact HS
    iexact Hlev
  iintro ⟨⟨Hw3, Hb3⟩, Hs3, HS⟩
  unfold wPts
  have h31 : InQ 3 (k0_off4 c 1#32) (k0_off4_inb c 0) := wsub 3 (fwd c 0) (wOff_succ 3 c 0) _
  have h32 : InQ 3 (k0_off4 c 2#32) (k0_off4_inb c 1) := wsub 3 (fwd c 1) (wOff_succ 3 c 1) _
  have h33 : InQ 3 (k0_off4 c 3#32) (k0_off4_inb c 2) := wsub 3 (fwd c 2) (wOff_succ 3 c 2) _
  have h34 : InQ 3 (k0_off4 c 4#32) (k0_off4_inb c 3) := wsub 3 (fwd c 3) (wOff_succ 3 c 3) _
  have h35 : InQ 3 (k0_off4 c 5#32) (k0_off4_inb c 4) := wsub 3 (fwd c 4) (wOff_succ 3 c 4) _
  have h36 : InQ 3 (k0_off4 c 6#32) (k0_off4_inb c 5) := wsub 3 (fwd c 5) (wOff_succ 3 c 5) _
  have h37 : InQ 3 (k0_off4 c 7#32) (k0_off4_inb c 6) := wsub 3 (fwd c 6) (wOff_succ 3 c 6) _
  have h30 : InQ 3 (k0_off6 c) (k0_off6_inb c) := wsub 3 c (k0_off6_eq c) _
  sl_exec
  iapply (wp_snd m K c 0 0 rfl (Fin.ext (sndDev_eq 0 c)) (by rfl) (by rfl) (by rfl) (by rfl)) $$ [HS Hy1]
  · isplitl [HS]; · iexact HS
    unfold yHas owns; iexists _
    isplitr; swap; · iexact Hy1
    ipureintro
    sl_unfold_run_names
    exact y_holds m c (fwd c 0) 1 _ rfl _ (blk3_of m c (fwd c 0) _ _ _ _ (wOff_succ 0 c 0) (wOff_succ 1 c 0) (wOff_succ 2 c 0) (wOff_succ 3 c 0))
  iintro HS
  sl_exec
  iapply (wp_snd m K c 1 1 rfl (Fin.ext (sndDev_eq 1 c)) (by rfl) (by rfl) (by rfl) (by rfl)) $$ [HS Hy2]
  · isplitl [HS]; · iexact HS
    unfold yHas owns; iexists _
    isplitr; swap; · iexact Hy2
    ipureintro
    sl_unfold_run_names
    exact y_holds m c (fwd c 1) 2 _ rfl _ (blk3_of m c (fwd c 1) _ _ _ _ (wOff_succ 0 c 1) (wOff_succ 1 c 1) (wOff_succ 2 c 1) (wOff_succ 3 c 1))
  iintro HS
  sl_exec
  iapply (wp_snd m K c 2 2 rfl (Fin.ext (sndDev_eq 2 c)) (by rfl) (by rfl) (by rfl) (by rfl)) $$ [HS Hy3]
  · isplitl [HS]; · iexact HS
    unfold yHas owns; iexists _
    isplitr; swap; · iexact Hy3
    ipureintro
    sl_unfold_run_names
    exact y_holds m c (fwd c 2) 3 _ rfl _ (blk3_of m c (fwd c 2) _ _ _ _ (wOff_succ 0 c 2) (wOff_succ 1 c 2) (wOff_succ 2 c 2) (wOff_succ 3 c 2))
  iintro HS
  sl_exec
  iapply (wp_snd m K c 3 3 rfl (Fin.ext (sndDev_eq 3 c)) (by rfl) (by rfl) (by rfl) (by rfl)) $$ [HS Hy4]
  · isplitl [HS]; · iexact HS
    unfold yHas owns; iexists _
    isplitr; swap; · iexact Hy4
    ipureintro
    sl_unfold_run_names
    exact y_holds m c (fwd c 3) 4 _ rfl _ (blk3_of m c (fwd c 3) _ _ _ _ (wOff_succ 0 c 3) (wOff_succ 1 c 3) (wOff_succ 2 c 3) (wOff_succ 3 c 3))
  iintro HS
  sl_exec
  iapply (wp_snd m K c 4 4 rfl (Fin.ext (sndDev_eq 4 c)) (by rfl) (by rfl) (by rfl) (by rfl)) $$ [HS Hy5]
  · isplitl [HS]; · iexact HS
    unfold yHas owns; iexists _
    isplitr; swap; · iexact Hy5
    ipureintro
    sl_unfold_run_names
    exact y_holds m c (fwd c 4) 5 _ rfl _ (blk3_of m c (fwd c 4) _ _ _ _ (wOff_succ 0 c 4) (wOff_succ 1 c 4) (wOff_succ 2 c 4) (wOff_succ 3 c 4))
  iintro HS
  sl_exec
  iapply (wp_snd m K c 5 5 rfl (Fin.ext (sndDev_eq 5 c)) (by rfl) (by rfl) (by rfl) (by rfl)) $$ [HS Hy6]
  · isplitl [HS]; · iexact HS
    unfold yHas owns; iexists _
    isplitr; swap; · iexact Hy6
    ipureintro
    sl_unfold_run_names
    exact y_holds m c (fwd c 5) 6 _ rfl _ (blk3_of m c (fwd c 5) _ _ _ _ (wOff_succ 0 c 5) (wOff_succ 1 c 5) (wOff_succ 2 c 5) (wOff_succ 3 c 5))
  iintro HS
  sl_exec
  iapply (wp_snd m K c 6 6 rfl (Fin.ext (sndDev_eq 6 c)) (by rfl) (by rfl) (by rfl) (by rfl)) $$ [HS Hy7]
  · isplitl [HS]; · iexact HS
    unfold yHas owns; iexists _
    isplitr; swap; · iexact Hy7
    ipureintro
    sl_unfold_run_names
    exact y_holds m c (fwd c 6) 7 _ rfl _ (blk3_of m c (fwd c 6) _ _ _ _ (wOff_succ 0 c 6) (wOff_succ 1 c 6) (wOff_succ 2 c 6) (wOff_succ 3 c 6))
  iintro HS
  sl_exec
  iapply (wp_owncopy m c (by rfl) (by rfl) (by rfl)) $$ [Hy0 Hout Hso]
  · isplitl [Hy0]
    · unfold yHas owns; iexists _
      isplitr; swap; · iexact Hy0
      ipureintro
      sl_unfold_run_names
      exact y_holds m c c 0 _ rfl _ (blk3_of m c c _ _ _ _ (wOff_zero 0 c (by decide)) (wOff_zero 1 c (by decide)) (wOff_zero 2 c (by decide)) (k0_off6_eq c))
    isplitl [Hout] <;> iassumption
  iintro Hfo
  ihave HS := (arr_start m K c) $$ [HS Harr]
  · isplitl [HS] <;> iassumption
  icases HS with ⟨HS, HdO⟩
  sl_exec
  iapply (wp_arr m K c 0 0 rfl (by rfl) (by rfl)) $$ [HS]
  · iexact HS
  iintro HS
  sl_exec
  iapply (wp_arr m K c 1 1 rfl (by rfl) (by rfl)) $$ [HS]
  · iexact HS
  iintro HS
  sl_exec
  iapply (wp_arr m K c 2 2 rfl (by rfl) (by rfl)) $$ [HS]
  · iexact HS
  iintro HS
  sl_exec
  iapply (wp_arr m K c 3 3 rfl (by rfl) (by rfl)) $$ [HS]
  · iexact HS
  iintro HS
  sl_exec
  iapply (wp_arr m K c 4 4 rfl (by rfl) (by rfl)) $$ [HS]
  · iexact HS
  iintro HS
  sl_exec
  iapply (wp_arr m K c 5 5 rfl (by rfl) (by rfl)) $$ [HS]
  · iexact HS
  iintro HS
  sl_exec
  iapply (wp_arr m K c 6 6 rfl (by rfl) (by rfl)) $$ [HS]
  · iexact HS
  iintro HS
  sl_exec
  ihave HS := (arr_end m K c) $$ HS
  icases HS with ⟨HI, HO, HatV, Hrecv⟩
  iapply (wp_ownwait m c (by rfl) (by rfl)) $$ [Hfo HO]
  · isplitl [Hfo] <;> iassumption
  iintro ⟨⟨Hown, Hy0⟩, Hso, HO⟩
  sl_exec
  ihave HS := (dep_start m K c) $$ [HI HO HdO HatS]
  · isplitl [HI HO]; · isplitl [HI] <;> iassumption
    isplitl [HdO] <;> iassumption
  iapply (wp_dep m K c 0 0 rfl (by rfl) (by rfl)) $$ [HS]
  · iexact HS
  iintro HS
  sl_exec
  iapply (wp_dep m K c 1 1 rfl (by rfl) (by rfl)) $$ [HS]
  · iexact HS
  iintro HS
  sl_exec
  iapply (wp_dep m K c 2 2 rfl (by rfl) (by rfl)) $$ [HS]
  · iexact HS
  iintro HS
  sl_exec
  iapply (wp_dep m K c 3 3 rfl (by rfl) (by rfl)) $$ [HS]
  · iexact HS
  iintro HS
  sl_exec
  iapply (wp_dep m K c 4 4 rfl (by rfl) (by rfl)) $$ [HS]
  · iexact HS
  iintro HS
  sl_exec
  iapply (wp_dep m K c 5 5 rfl (by rfl) (by rfl)) $$ [HS]
  · iexact HS
  iintro HS
  sl_exec
  iapply (wp_dep m K c 6 6 rfl (by rfl) (by rfl)) $$ [HS]
  · iexact HS
  iintro HS
  sl_exec
  ihave HS := (dep_end m K c) $$ HS
  icases HS with ⟨HI, HO, HatS, Hsend⟩
  imod (close_cells m K c) $$ [HI HatB HatS HatV] with Hz
  · isplitl [HI]; · iexact HI
    isplitl [HatB]; · iexact HatB
    isplitl [HatS] <;> iassumption
  rw [wp_ret]; imodintro
  iapply Hk
  unfold bodyOut xPts wPts pPts
  isplitl [HO]; · iexact HO
  isplitl [Ha]; · iexact Ha
  isplitl [Hb0 Hb1 Hb2 Hb3]
  · isplitl [Hb0]; · iexact Hb0
    isplitl [Hb1]; · iexact Hb1
    isplitl [Hb2] <;> iassumption
  isplitl [Hx]; · iexists _; iexact Hx
  isplitl [Hw0 Hw1 Hw2 Hw3]
  · isplitl [Hw0]; · iexists _; iexact Hw0
    isplitl [Hw1]; · iexists _; iexact Hw1
    isplitl [Hw2]; · iexists _; iexact Hw2
    iexists _; iexact Hw3
  isplitl [Hso Hsx Hs0 Hs1 Hs2 Hs3]
  · isplitl [Hso]; · iexact Hso
    isplitl [Hsx]; · iexact Hsx
    isplitl [Hs0]; · iexact Hs0
    isplitl [Hs1]; · iexact Hs1
    isplitl [Hs2] <;> iassumption
  isplitl [Hz]; · iexact Hz
  isplitl [Hown Hrecv]; · isplitl [Hown] <;> iassumption
  isplitl [Hy0 Hsend]; · isplitl [Hy0] <;> iassumption
  isplitl [Hp0]; · iexists _; iexact Hp0
  isplitl [Hp1]; · iexists _; iexact Hp1
  isplitl [Hp2]; · iexists _; iexact Hp2
  isplitl [Hp3]; · iexists _; iexact Hp3
  isplitl [Hp4]; · iexists _; iexact Hp4
  isplitl [Hp5]; · iexists _; iexact Hp5
  isplitl [Hp6]; · iexists _; iexact Hp6
  iexists _; iexact Hp7

end Cert.Exchange

end
-- ==== Proof.Blocks.lean ====
module

public import proofs.«01_k».proof.Proof.Body
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device and its seven peers are all the devices -/

omit [FloatOps F] in
theorem devs_fwd (c : Dev nD) (Φ : Dev nD → sProp 𝕄) :
    bigSep Finset.univ Φ = iprop(Φ c ∗ bigSep Finset.univ fun j : Fin 7 => Φ (fwd c j)) := by
  rw [bigSep_univ_at Φ c, show Finset.univ.erase c = Finset.univ.map ⟨fun j => fwd c j, fun _ _ h => fwd_inj c h⟩ from by
    revert c; decide +kernel, bigSep_map]
  rfl

omit [FloatOps F] in
theorem devs_bwd (c : Dev nD) (Φ : Dev nD → sProp 𝕄) :
    bigSep Finset.univ Φ = iprop(Φ c ∗ bigSep Finset.univ fun j : Fin 7 => Φ (bwd c j)) := by
  rw [devs_fwd c Φ, BI.bigSep_univ_equiv (Fin.revPerm (n := 7)) (fun j => Φ (fwd c j))]
  exact congrArg (fun P => iprop(Φ c ∗ P)) (BI.bigSep_congr fun j _ => congrArg Φ (fwd_rev c j))

/-! ## The rectangles are disjoint and cover -/

theorem outRect_set (s : Dev nD) (i : S2048x256.Idx) : Iff (i ∈ (outRect s).set) ((i 0).val / 256 = s.val) := by
  rw [Rect.mem_set_unit, k0_off5_eq]
  have h1 : (i 1).val < 256 := (i 1).isLt
  constructor
  · intro h
    have h0 : 256 * s.val ≤ (i 0).val ∧ (i 0).val < 256 * s.val + 256 := h 0
    omega
  · intro h a
    match a with
    | ⟨0, _⟩ => show 256 * s.val ≤ (i 0).val ∧ (i 0).val < 256 * s.val + 256; omega
    | ⟨1, _⟩ => show 0 ≤ (i 1).val ∧ (i 1).val < 0 + 256; omega
theorem qRect_set (q : Fin 4) (i : S2048x2048.Idx) : Iff (i ∈ (qRect q).set) ((i 0).val / 512 = q.val) := by
  rw [Rect.mem_set_unit]
  have h1 : (i 1).val < 2048 := (i 1).isLt
  constructor
  · intro h
    have h0 : 512 * q.val ≤ (i 0).val ∧ (i 0).val < 512 * q.val + 512 := h 0
    omega
  · intro h a
    match a with
    | ⟨0, _⟩ => show 512 * q.val ≤ (i 0).val ∧ (i 0).val < 512 * q.val + 512; omega
    | ⟨1, _⟩ => show 0 ≤ (i 1).val ∧ (i 1).val < 0 + 2048; omega
theorem slotRect_set (j : Fin 8) (i : S8x256x256.Idx) : Iff (i ∈ (slotRect j).set) ((i 0).val = j.val) := by
  rw [Rect.mem_set_unit]
  have h1 : (i 1).val < 256 := (i 1).isLt
  have h2 : (i 2).val < 256 := (i 2).isLt
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 256; omega
    | ⟨2, _⟩ => show 0 ≤ (i 2).val ∧ (i 2).val < 0 + 256; omega

/-- Sets told apart by a number below `n` that every index has are disjoint; -/
theorem sets_disjoint {I : Type} [DecidableEq I] {n : ℕ} (S : Fin n → Finset I) (v : I → ℕ) (h : ∀ t i, Iff (i ∈ S t) (v i = t.val))
    (t t' : Fin n) (hne : t ≠ t') : Disjoint (S t) (S t') :=
  Finset.disjoint_left.mpr fun i hi hi' => hne (Fin.ext (((h t i).mp hi).symm.trans ((h t' i).mp hi')))
/-- and cover. -/
theorem sets_cover {I : Type} [DecidableEq I] [Fintype I] {n : ℕ} (S : Fin n → Finset I) (v : I → ℕ) (h : ∀ t i, Iff (i ∈ S t) (v i = t.val))
    (hv : ∀ i, v i < n) : (Finset.univ : Finset (Fin n)).biUnion S = Finset.univ :=
  Finset.eq_univ_of_forall fun i => Finset.mem_biUnion.mpr ⟨⟨v i, hv i⟩, Finset.mem_univ _, (h _ i).mpr rfl⟩

theorem out_lt (i : S2048x256.Idx) : (i 0).val / 256 < 8 := by have : (i 0).val < 2048 := (i 0).isLt; omega
theorem q_lt (i : S2048x2048.Idx) : (i 0).val / 512 < 4 := by have : (i 0).val < 2048 := (i 0).isLt; omega
theorem slot_lt (i : S8x256x256.Idx) : (i 0).val < 8 := (i 0).isLt

theorem outBlk_set (s : Dev nD) (i : S2048x256.Idx) : Iff (i ∈ (outBlk s).view.set) ((i 0).val / 256 = s.val) := by
  rw [show (outBlk s).view.set = (outRect s).set from View.set_slice_whole main_v1 (outRect s)]; exact outRect_set s i
theorem wQ_set (q : Fin 4) (i : S2048x2048.Idx) : Iff (i ∈ (wQ q).view.set) ((i 0).val / 512 = q.val) := by
  rw [show (wQ q).view.set = (qRect q).set from View.set_slice_whole cc0_scratch1 (qRect q)]; exact qRect_set q i
theorem bQ_set (q : Fin 4) (i : S2048x2048.Idx) : Iff (i ∈ (bQ q).view.set) ((i 0).val / 512 = q.val) := by
  rw [show (bQ q).view.set = (qRect q).set from View.set_slice_whole main_arg1 (qRect q)]; exact qRect_set q i
theorem pSlice_set (j : Fin 8) (i : S8x256x256.Idx) : Iff (i ∈ (pSlice j).view.set) ((i 0).val = j.val) := by
  rw [show (pSlice j).view.set = (slotRect j).set from View.set_slice_whole cc0_scratch3 (slotRect j)]; exact slotRect_set j i
theorem ySlot_set (j : Fin 8) (i : S8x256x256.Idx) : Iff (i ∈ (ySlot j).view.set) ((i 0).val = j.val) := by
  rw [show (ySlot j).view.set = (slotRect j).set from
    (View.set_reshape (v := (ySlice j).view) squeezes_S1x256x256_S256x256.numel_eq).trans (View.set_slice_whole cc0_scratch2 (slotRect j))]
  exact slotRect_set j i

/-! ## Buffers piece by piece -/

omit [FloatOps F] in
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem fin8_succ (Φ : Fin 8 → sProp 𝕄) : bigSep Finset.univ Φ = iprop(Φ 0 ∗ bigSep Finset.univ fun j : Fin 7 => Φ j.succ) := by
  rw [fin8, bigSep_univ_eq_bigSepL [0, 1, 2, 3, 4, 5, 6] (by decide) (by decide) (fun j : Fin 7 => Φ j.succ)]; rfl

omit [FloatOps F] in
/-- Pieces at one contents are pieces each at some contents. -/
theorem each_exists {ℓ : Loc nD τ sig} {n : ℕ} (I : Fin n → Finset (Idx ℓ)) (f : Buf (Elt F) ℓ) :
    (bigSep Finset.univ fun t => (ℓ ↦[I t]{fullShare} f : sProp 𝕄)) ⊢ bigSep Finset.univ fun t => iprop(∃ f, ℓ ↦[I t]{fullShare} f) :=
  bigSep_mono fun t _ => by
    show iprop(ℓ ↦[I t]{fullShare} f) ⊢ iprop(∃ f, ℓ ↦[I t]{fullShare} f)
    iintro H; iexists f; iexact H

omit [FloatOps F] in
/-- A buffer told apart by a number into pieces: whole at some contents, it is every piece at some contents, -/
theorem split_pieces {ℓ : Loc nD τ sig} {n : ℕ} (I : Fin n → Finset (Idx ℓ)) (v : Idx ℓ → ℕ) (h : ∀ t i, Iff (i ∈ I t) (v i = t.val))
    (hv : ∀ i, v i < n) :
    (iprop(∃ f, ℓ ↦{fullShare} f) : sProp 𝕄) ⊢ bigSep Finset.univ fun t => iprop(∃ f, ℓ ↦[I t]{fullShare} f) := by
  iintro ⟨%f, H⟩
  iapply (each_exists I f)
  iapply (Entails.of_eq (Idealize.ShloMosaic.Ring.pointsTo_blocks I (sets_disjoint I v h) (sets_cover I v h hv) f))
  iexact H
omit [FloatOps F] in
/-- and back. -/
theorem join_pieces {ℓ : Loc nD τ sig} {n : ℕ} (I : Fin n → Finset (Idx ℓ)) (v : Idx ℓ → ℕ) (h : ∀ t i, Iff (i ∈ I t) (v i = t.val))
    (hv : ∀ i, v i < n) (f₀ : Buf (Elt F) ℓ) :
    (bigSep Finset.univ fun t => (iprop(∃ f, ℓ ↦[I t]{fullShare} f) : sProp 𝕄)) ⊢ iprop(∃ f, ℓ ↦{fullShare} f) :=
  Idealize.ShloMosaic.Ring.pointsTo_blocks_join_exists I (sets_disjoint I v h) (sets_cover I v h hv) f₀

/-- The second operand in its four row blocks. -/
theorem b_pieces (c : Dev nD) :
    ((c : Thread nD τ).loc main_arg1 ↦{fullShare} W m c : sProp 𝕄) = iprop(bPts m c 0 ∗ bPts m c 1 ∗ bPts m c 2 ∗ bPts m c 3) := by
  rw [← fin4 (fun q => bPts m c q)]
  exact Idealize.ShloMosaic.Ring.pointsTo_blocks (ℓ := (c : Thread nD τ).loc main_arg1) (fun q => (bQ q).view.set)
    (sets_disjoint _ _ bQ_set) (sets_cover _ _ bQ_set q_lt) (W m c)

/-- Its copy, in the same blocks. -/
theorem w_split (c : Dev nD) :
    (iprop(∃ f : Buf (Elt F) ((c : Thread nD τ).loc cc0_scratch1), (c : Thread nD τ).loc cc0_scratch1 ↦{fullShare} f) : sProp 𝕄)
      ⊢ iprop((∃ f, wPts c 0 f) ∗ (∃ f, wPts c 1 f) ∗ (∃ f, wPts c 2 f) ∗ (∃ f, wPts c 3 f)) :=
  (split_pieces (ℓ := (c : Thread nD τ).loc cc0_scratch1) (fun q => (wQ q).view.set) _ wQ_set q_lt).trans
    (Entails.of_eq (fin4 (fun q => iprop(∃ f, wPts c q f))))
include m in
theorem w_join (c : Dev nD) :
    (iprop((∃ f, wPts c 0 f) ∗ (∃ f, wPts c 1 f) ∗ (∃ f, wPts c 2 f) ∗ (∃ f, wPts c 3 f)) : sProp 𝕄)
      ⊢ iprop(∃ f : Buf (Elt F) ((c : Thread nD τ).loc cc0_scratch1), (c : Thread nD τ).loc cc0_scratch1 ↦{fullShare} f) :=
  (Entails.of_eq (fin4 (fun q => iprop(∃ f, wPts c q f))).symm).trans
    (join_pieces (ℓ := (c : Thread nD τ).loc cc0_scratch1) (fun q => (wQ q).view.set) _ wQ_set q_lt (W m c))

/-- The buffer of finished blocks in its slots. -/
theorem y_split (c : Dev nD) :
    (iprop(∃ f : Buf (Elt F) ((c : Thread nD τ).loc cc0_scratch2), (c : Thread nD τ).loc cc0_scratch2 ↦{fullShare} f) : sProp 𝕄)
      ⊢ bigSep Finset.univ fun j => iprop(∃ f, yPts c j f) :=
  split_pieces (ℓ := (c : Thread nD τ).loc cc0_scratch2) (fun j => (ySlot j).view.set) _ ySlot_set slot_lt
include m in
theorem y_join (c : Dev nD) :
    (bigSep Finset.univ fun j => iprop(∃ f, yPts c j f) : sProp 𝕄)
      ⊢ iprop(∃ f : Buf (Elt F) ((c : Thread nD τ).loc cc0_scratch2), (c : Thread nD τ).loc cc0_scratch2 ↦{fullShare} f) :=
  join_pieces (ℓ := (c : Thread nD τ).loc cc0_scratch2) (fun j => (ySlot j).view.set) _ ySlot_set slot_lt
    (m ((c : Thread nD τ).loc cc0_scratch2))

/-- The buffer of sums in its slots. -/
theorem p_split (c : Dev nD) :
    (iprop(∃ f : Buf (Elt F) ((c : Thread nD τ).loc cc0_scratch3), (c : Thread nD τ).loc cc0_scratch3 ↦{fullShare} f) : sProp 𝕄)
      ⊢ bigSep Finset.univ fun j => iprop(∃ f, pPts c j f) :=
  split_pieces (ℓ := (c : Thread nD τ).loc cc0_scratch3) (fun j => (pSlice j).view.set) _ pSlice_set slot_lt
include m in
theorem p_join (c : Dev nD) :
    (bigSep Finset.univ fun j => iprop(∃ f, pPts c j f) : sProp 𝕄)
      ⊢ iprop(∃ f : Buf (Elt F) ((c : Thread nD τ).loc cc0_scratch3), (c : Thread nD τ).loc cc0_scratch3 ↦{fullShare} f) :=
  join_pieces (ℓ := (c : Thread nD τ).loc cc0_scratch3) (fun j => (pSlice j).view.set) _ pSlice_set slot_lt
    (m ((c : Thread nD τ).loc cc0_scratch3))

/-- A result in the rows of every device: the device's own, and its peers'. -/
theorem out_split (c : Dev nD) :
    ((c : Thread nD τ).loc main_v1 ↦{fullShare} m ((c : Thread nD τ).loc main_v1) : sProp 𝕄)
      ⊢ iprop((∃ f, outPts c c f) ∗ bigSep Finset.univ fun j : Fin 7 => iprop(∃ f, outPts c (fwd c j) f)) := by
  rw [← devs_fwd c (fun s => iprop(∃ f, outPts c s f))]
  refine BIBase.Entails.trans ?_ (split_pieces (ℓ := (c : Thread nD τ).loc main_v1) (fun s : Fin 8 => (outBlk s).view.set) _ outBlk_set out_lt)
  iintro H; iexists _; iexact H

theorem out_blk (c s : Dev nD) :
    blk m s c = fun i => oM.view.read (Elt F) (out m c) ((outRect s).emb i) := by
  funext i
  have e0 : (((outRect s).emb i) 0).val = 256 * s.val + (i 0).val := by
    show k0_off5 s 0 + 1 * (i 0).val = _
    rw [k0_off5_eq, Nat.one_mul]; rfl
  have e1 : (((outRect s).emb i) 1).val = (i 1).val := by
    show k0_off5 s 1 + 1 * (i 1).val = _
    rw [k0_off5_eq, Nat.one_mul]; exact Nat.zero_add _
  have h0 : (i 0).val < 256 := (i 0).isLt
  show _ = out m c ((outRect s).emb i)
  unfold out
  congr 1
  · congr 1; refine Fin.ext ?_; show s.val = (((outRect s).emb i) 0).val / 256; rw [e0]; omega
  · funext a
    match a with
    | ⟨0, _⟩ => refine Fin.ext ?_; show (i 0).val = (((outRect s).emb i) 0).val % 256; rw [e0]; omega
    | ⟨1, _⟩ => exact Fin.ext e1.symm

/-- All the blocks in, the result is whole. -/
theorem out_join (c : Dev nD) :
    iprop(outHas c c (blk m c c) ∗ bigSep Finset.univ fun j => recvPay m c j)
      ⊢ ((c : Thread nD τ).loc main_v1 ↦{fullShare} out m c : sProp 𝕄) := by
  unfold recvPay
  rw [← devs_bwd c (fun s => outHas c s (blk m s c))]
  refine (Entails.of_eq ?_).trans (Entails.of_eq (View.set_whole main_v1 ▸
    (pointsTo_rects (c : Thread nD τ) oM fullShare outRect (fun _ _ => rfl) (sets_disjoint _ _ outRect_set)
      (sets_cover _ _ outRect_set out_lt) (out m c)).symm))
  exact BI.bigSep_congr fun s _ => by unfold outHas; rw [out_blk m c s]

end Cert.Exchange

end
-- ==== Proof.Launch.lean ====
module

public import proofs.«01_k».proof.Proof.Blocks
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch hands a device, and what the device ends with -/

/-- A device's semaphores of copies within it, at zero. -/
def localSems (c : Dev nD) : sProp 𝕄 :=
  iprop(semVal ((c : Thread nD τ), .dma ownS) 0 ∗ semVal ((c : Thread nD τ), .dma xS) 0 ∗ semVal ((c : Thread nD τ), .dma (wS 0)) 0
    ∗ semVal ((c : Thread nD τ), .dma (wS 1)) 0 ∗ semVal ((c : Thread nD τ), .dma (wS 2)) 0 ∗ semVal ((c : Thread nD τ), .dma (wS 3)) 0)

/-- The tokens of the duties a device pays: its signals, its sends. -/
def payToks (c : Dev nD) : sProp 𝕄 :=
  iprop((bigSep Finset.univ fun j : Fin 7 => dutyTok ER (barCell (fwd c j)) 0 j)
    ∗ bigSep Finset.univ fun j : Fin 7 => iprop(dutyTok ER (recvCell (fwd c j) j) 0 0 ∗ dutyTok ER (sendCell c j) 0 0))

/-- The exchange as a device starts it. -/
def G' (c : Dev nD) : sProp 𝕄 :=
  iprop(∃ K, allInv m K ∗ (bigSep Finset.univ fun k : CK => atPos ER (kcell (c, k)) 0 ∅ 0) ∗ payToks c ∗ localSems c)

/-- The operands as launched, and a result at contents `f`. -/
def arrs (c : Dev nD) (f : Buf (Elt F) ((c : Thread nD τ).loc main_v1)) : sProp 𝕄 :=
  iprop(((c : Thread nD τ).loc main_arg0 ↦{fullShare} m ((c : Thread nD τ).loc main_arg0))
    ∗ ((c : Thread nD τ).loc main_arg1 ↦{fullShare} m ((c : Thread nD τ).loc main_arg1)) ∗ ((c : Thread nD τ).loc main_v1 ↦{fullShare} f))

def start (c : Dev nD) : sProp 𝕄 :=
  iprop(G' m c ∗ (cred (tallyAt (barCell c) () 7) ∗ bigSep Finset.univ fun j : Fin 7 => cred (tallyAt (recvCell c j) () N)) ∗ levAts L lv
    ∗ arrs m c (m ((c : Thread nD τ).loc main_v1)))

/-- The kernel's own semaphores: those of the copies within a device, of departures, of arrivals. -/
def osem : Fin 6 ⊕ (Fin 7 ⊕ Fin 7) → SemLoc sig
  | .inl i => .dma ((![ownS, xS, wS 0, wS 1, wS 2, wS 3] : Fin 6 → DmaSem sig) i)
  | .inr (.inl j) => .dma (sendS j)
  | .inr (.inr j) => .dma (recvS j)

def Φ₀ (c : Dev nD) : sProp 𝕄 := iprop(start m c ∗ Pipeline.scopedRest cfg0.spec c)
def Φ₁ (c : Dev nD) : sProp 𝕄 :=
  iprop((unscopedSems0 c ∗ arrs m c (out m c)) ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem ownSems0_eq (c : Dev nD) : (Pipeline.ownSems0 (Ix := Unit) (Name := ℕ) (U := UU) (Lvl := ℕ) (Val := Elt F) (τ := τ) osem c : sProp 𝕄)
    = iprop(localSems c ∗ (bigSep Finset.univ fun j : Fin 7 => semVal (sendCell c j) 0) ∗ bigSep Finset.univ fun j : Fin 7 => semVal (recvCell c j) 0) := by
  unfold Pipeline.ownSems0
  rw [bigSep_univ_sum, bigSep_univ_sum, bigSep_univ_eq_bigSepL [0, 1, 2, 3, 4, 5] (by decide) (by decide)
    (fun i : Fin 6 => (semVal ((c.tc : Thread nD τ), osem (.inl i)) 0 : sProp 𝕄))]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters of the exchange's cells and the semaphores of copies within a device are all the launch has: dealt, -/
theorem sems0_deal (c : Dev nD) :
    iprop(unscopedSems0 c ∗ Pipeline.ownSems0 (Ix := Unit) (Name := ℕ) (U := UU) (Lvl := ℕ) (Val := Elt F) (τ := τ) osem c)
      ⊢ (iprop((bigSep Finset.univ fun k : CK => semVal (kcell (c, k)) 0) ∗ localSems c) : sProp 𝕄) := by
  rw [ownSems0_eq, unscopedSems0_eq, bigSep_CK]
  iintro ⟨HB, HL, HS, HR⟩
  isplitr [HL]
  · isplitl [HB]; · iexact HB
    isplitl [HS]; · iexact HS
    iexact HR
  iexact HL
/-- and handed back. -/
theorem sems0_back (c : Dev nD) :
    (iprop((bigSep Finset.univ fun k : CK => semVal (kcell (c, k)) 0) ∗ localSems c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, bigSep_CK]
  iintro ⟨⟨HB, HS, HR⟩, HL⟩
  isplitl [HB]; · iexact HB
  isplitl [HL]; · iexact HL
  isplitl [HS]; · iexact HS
  iexact HR

/-! ## The body's obligation -/

omit [FloatOps F] in
theorem signals_intro (c : Dev nD) :
    iprop((bigSep Finset.univ fun j : Fin 7 => dutyTok ER (barCell (fwd c j)) 0 j) ∗ bigSep Finset.univ fun j : Fin 7 => iprop(∃ f, outPts c (fwd c j) f))
      ⊢ (bigSep (geS 0) fun j => sigOne c j : sProp 𝕄) := by
  rw [geS_zero, ← bigSep_sep']
  exact bigSep_mono fun j _ => by unfold sigOne; exact BI.Entails.refl _
omit [FloatOps F] in
theorem arrivals_intro (c : Dev nD) :
    iprop((bigSep Finset.univ fun j : Fin 7 => cred (tallyAt (recvCell c j) () N)) ∗ bigSep Finset.univ fun j : Fin 7 => atPos ER (kcell (c, kRecv j)) 0 ∅ 0)
      ⊢ (bigSep (geS 0) fun j => arrPre c j : sProp 𝕄) := by
  rw [geS_zero, ← bigSep_sep']
  exact bigSep_mono fun j _ => by unfold arrPre; exact BI.Entails.refl _

theorem aPts_eq (c : Dev nD) : ((c : Thread nD τ).loc main_arg0 ↦{fullShare} X m c : sProp 𝕄) = aPts m c := by
  unfold aPts; exact congrArg (fun S => ((c : Thread nD τ).loc main_arg0 ↦[S]{fullShare} X m c : sProp 𝕄)) (View.set_whole main_arg0).symm
omit [FloatOps F] in
theorem xPts_eq (c : Dev nD) (f : Buf (Elt F) ((c : Thread nD τ).loc cc0_scratch0)) :
    ((c : Thread nD τ).loc cc0_scratch0 ↦{fullShare} f : sProp 𝕄) = xPts c f := by
  unfold xPts; exact congrArg (fun S => ((c : Thread nD τ).loc cc0_scratch0 ↦[S]{fullShare} f : sProp 𝕄)) (View.set_whole cc0_scratch0).symm

set_option maxRecDepth 8000 in
/-- What the launch hands a device is what its body starts from; -/
theorem enter (c : Dev nD) :
    iprop(Φ₀ m c ∗ owesW c (O₀ c)) ⊢ (iprop(∃ K, bodyIn m K c) : sProp 𝕄) := by
  unfold Φ₀ start G' arrs payToks
  rw [scopedRest0_eq]
  iintro ⟨⟨⟨⟨%K, HI, Hat, ⟨HtB, HtS⟩, HL⟩, ⟨HcB, HcR⟩, Hlev, Ha, Hb, Ho⟩, ⟨%f0, Hs0⟩, Hs1, Hs2, Hs3⟩, HO⟩
  iexists K
  ihave Hat' := (Entails.of_eq (bigSep_CK fun k : CK => (atPos ER (kcell (c, k)) 0 ∅ 0 : sProp 𝕄))) $$ Hat
  icases Hat' with ⟨HaB, HaS, HaR⟩
  ihave Ho' := (out_split m c) $$ Ho
  icases Ho' with ⟨Hoc, Hop⟩
  unfold bodyIn sigSt
  isplitl [HI HO HtB Hop]
  · isplitl [HI]; · iexact HI
    isplitl [HO]
    · rw [show owedR c 0 + owedB c 0 = O₀ c from by rw [owedR_zero, owedB_zero]; rfl]; iexact HO
    iapply (signals_intro (F := F) c)
    isplitl [HtB]; · iexact HtB
    iexact Hop
  isplitl [Hlev]; · iexact Hlev
  isplitl [HtS]; · iexact HtS
  isplitl [HcR HaR]
  · iapply (arrivals_intro (F := F) c)
    isplitl [HcR]; · iexact HcR
    iexact HaR
  isplitl [HaS]; · iexact HaS
  isplitl [HcB]; · iexact HcB
  isplitl [HaB]; · iexact HaB
  isplitl [Ha]; · iapply (Entails.of_eq (aPts_eq m c)); iexact Ha
  isplitl [Hb]; · iapply (Entails.of_eq (b_pieces m c)); iexact Hb
  isplitl [Hs0]; · iexists f0; iapply (Entails.of_eq (xPts_eq (F := F) c f0)); iexact Hs0
  isplitl [Hs1]; · iapply (w_split (F := F) c); iexact Hs1
  isplitl [HL]; · unfold localSems; iexact HL
  isplitl [Hoc]; · iexact Hoc
  isplitl [Hs2]
  · iapply ((y_split (F := F) c).trans (Entails.of_eq (fin8 _))); iexact Hs2
  iapply ((p_split (F := F) c).trans (Entails.of_eq (fin8 _))); iexact Hs3

set_option maxRecDepth 8000 in
/-- and what its body ends with is what it hands back. -/
theorem leave (c : Dev nD) :
    bodyOut m c ⊢ (iprop(Φ₁ m c ∗ owesW c 0) : sProp 𝕄) := by
  unfold bodyOut Φ₁ arrs
  rw [scopedRest0_eq, owedR_seven]
  iintro ⟨HO, Ha, Hb, ⟨%f0, Hx⟩, Hw, HL, Hz, Hout, ⟨Hy0, Hy⟩, Hp⟩
  ihave Hsem := (sems0_back (F := F) c) $$ [Hz HL]
  · isplitl [Hz]; · iexact Hz
    unfold localSems; iexact HL
  icases Hsem with ⟨Hus, Hos⟩
  isplitr [HO]
  · isplitl [Hus Ha Hb Hout]
    · isplitl [Hus]; · iexact Hus
      isplitl [Ha]; · iapply (Entails.of_eq (aPts_eq m c).symm); iexact Ha
      isplitl [Hb]; · iapply (Entails.of_eq (b_pieces m c).symm); iexact Hb
      iapply (out_join m c); iexact Hout
    isplitl [Hos]; · iexact Hos
    isplitl [Hx]; · iexists f0; iapply (Entails.of_eq (xPts_eq (F := F) c f0).symm); iexact Hx
    isplitl [Hw]; · iapply (w_join m c); iexact Hw
    isplitl [Hy0 Hy]
    · iapply ((Entails.of_eq (fin8_succ fun j => iprop(∃ f, yPts (F := F) c j f)).symm).trans (y_join m c))
      isplitl [Hy0]; · iexact Hy0
      unfold sendPay; iexact Hy
    iapply ((Entails.of_eq (fin8 fun j => iprop(∃ f, pPts (F := F) c j f)).symm).trans (p_join m c))
    iexact Hp
  iexact HO

set_option maxRecDepth 8000 in
theorem body_obligation (c : Dev nD) : BodyObligation (dats (F := F) m 0 c) (defs₀ (F := F)) 𝒱₀ () Set.univ := fun t => by
  rw [fin_N0 t]
  rw [Finset.univ_eq_empty, bigSep_empty, bigSep_empty]
  show iprop(Φ₀ m c ∗ (dats m 0 c).owesAt () t0_0.castSucc ∗ emp) ⊢ wp frame (wpE (defs₀ (F := F)) 𝒱₀ c none) Set.univ
    (bodyAt0 t0_0) (fun _ => iprop(Φ₁ m c ∗ (dats m 0 c).owesAt () t0_0.succ ∗ emp))
  unfold Dat.owesAt Pipeline.owesWithin
  iintro ⟨HΦ, ⟨%V, %hV, HO⟩, -⟩
  ihave HB := (enter m c) $$ [HΦ HO]
  · isplitl [HΦ]; · iexact HΦ
    unfold owesW; iexists V; iexact HO
  icases HB with ⟨%K, HB⟩
  iapply (sound_body m K c)
  isplitl [HB]; · iexact HB
  iintro Hout
  ihave H := (leave m c) $$ Hout
  unfold owesW
  icases H with ⟨HΦ, ⟨%V', HO⟩⟩
  isplitl [HΦ]; · iexact HΦ
  isplitl [HO]
  · iexists V'
    isplitr; · ipureintro; exact fun _ _ => Or.inl trivial
    iexact HO
  iempintro

/-! ## The launch -/

theorem ownSemFacts : Pipeline.OwnSemFacts cfg0.spec osem := by decide +kernel

theorem kcell_injective : Function.Injective (kcell : Dev nD × CK → GSem nD τ sig) := by
  rintro ⟨c, k⟩ ⟨c', k'⟩ h
  have h1 : c = c' := congrArg (fun g : GSem nD τ sig => g.1.1) h
  have h2 : some k = some k' := by rw [← role_csem k, ← role_csem k']; exact congrArg (fun g : GSem nD τ sig => role g.2) h
  rw [h1, Option.some.inj h2]
def exCells : Finset (GSem nD τ sig) := Finset.univ.map ⟨kcell, kcell_injective⟩

/-- The duties of a device's own cells: seven of the barrier, one of each departure and each arrival. -/
abbrev TK : Type := Fin 7 ⊕ (Fin 7 ⊕ Fin 7)
def tokAt : TK → SemLoc sig × Fin 7
  | .inl j => (.reg barS, j)
  | .inr (.inl j) => (.dma (sendS j), 0)
  | .inr (.inr j) => (.dma (recvS j), 0)
theorem tokAt_injective : ∀ t t', tokAt t = tokAt t' → t = t' := by decide +kernel
abbrev tokOf (ct : Dev nD × TK) : GSem nD τ sig × ℕ × Fin 7 := (((ct.1 : Thread nD τ), (tokAt ct.2).1), 0, (tokAt ct.2).2)
theorem tokOf_injective : Function.Injective (tokOf : Dev nD × TK → GSem nD τ sig × ℕ × Fin 7) := by
  rintro ⟨c, t⟩ ⟨c', t'⟩ h
  have h1 : c = c' := congrArg (fun x : GSem nD τ sig × ℕ × Fin 7 => x.1.1.1) h
  have h2 : tokAt t = tokAt t' := congrArg (fun x : GSem nD τ sig × ℕ × Fin 7 => (x.1.2, x.2.2)) h
  rw [h1, tokAt_injective t t' h2]
def exToks : Finset (GSem nD τ sig × ℕ × Fin 7) := Finset.univ.map ⟨tokOf, tokOf_injective⟩

def u₀ : UU :=
  (initOf (Pipeline.cells cfgs cellOf_inj) (Pipeline.launchToks cfgs cellOf_inj), (initOf exCells exToks, 1))

omit [FloatOps F] in
theorem u₀_split (a : UR sig nD τ) (b : UB) :
    (ownU (a, (b, (1 : Counters))) : sProp 𝕄) ⊢ iprop(BI.own (EP (F := F) a) ∗ BI.own (ER (F := F) b)) :=
  BI.own_op_elim (uEmb.toEmb.op_of_mem (Prod.mk_mem_op (URA.mem_op_one a) (URA.mem_one_op (b, (1 : Counters)))))

/-- The tokens of the duties of device `c`'s own cells. -/
def toks (c : Dev nD) : sProp 𝕄 :=
  iprop((bigSep Finset.univ fun j : Fin 7 => dutyTok ER (barCell c) 0 j) ∗ (bigSep Finset.univ fun j : Fin 7 => dutyTok ER (sendCell c j) 0 0)
    ∗ bigSep Finset.univ fun j : Fin 7 => dutyTok ER (recvCell c j) 0 0)

/-- What the launch element deals device `c`. -/
def G (c : Dev nD) : sProp 𝕄 :=
  iprop((bigSep Finset.univ fun k : CK => roundState ER (Rd m) (kcell (c, k)) 0)
    ∗ ((bigSep Finset.univ fun k : CK => atPos ER (kcell (c, k)) 0 ∅ 0) ∗ bigSep Finset.univ fun k : CK => reached ER (kcell (c, k)) 0) ∗ toks c)

theorem fund_exchange : BI.own (ER (F := F) (initOf exCells exToks)) ⊢ (|==> bigSep Finset.univ (G m) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> (iprop((bigSep Finset.univ fun k : CK => iprop((∃ κ : ℕ, cellInv ER (Rd m) κ (kcell (c, k))) ∗ reached ER (kcell (c, k)) 0))
          ∗ (bigSep Finset.univ fun k : CK => atPos ER (kcell (c, k)) 0 ∅ 0) ∗ toks c ∗ localSems c) : sProp 𝕄) := by
  unfold G
  iintro ⟨Hos, Hus, Hst, ⟨Hat, Hr⟩, Htok⟩
  ihave Hv := (sems0_deal (F := F) c) $$ [Hos Hus]
  · isplitl [Hus] <;> iassumption
  icases Hv with ⟨Hv, HL⟩
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv Hr]
  · rw [bigSep_sep']
    isplitl [Hinv]; · iexact Hinv
    iexact Hr
  isplitl [Hat]; · iexact Hat
  isplitl [Htok]; · iexact Htok
  iexact HL

omit [FloatOps F] in
theorem around (Φ : Dev nD → Fin 7 → sProp 𝕄) :
    (bigSep Finset.univ fun c => bigSep Finset.univ fun j => Φ c j) = bigSep Finset.univ fun c => bigSep Finset.univ fun j => Φ (fwd c j) j := by
  rw [BI.bigSep_univ_comm, BI.bigSep_univ_comm (fun c j => Φ (fwd c j) j)]
  exact bigSep_congr fun j _ => BI.bigSep_univ_equiv (shift j) (fun c => Φ c j)

omit [FloatOps F] in
/-- The tokens dealt to those who pay the duties. -/
theorem toks_around : (bigSep Finset.univ fun c : Dev nD => (toks c : sProp 𝕄)) ⊢ bigSep Finset.univ fun c : Dev nD => payToks c := by
  unfold toks payToks
  simp only [bigSep_sep']
  rw [around (fun c j => (dutyTok ER (barCell c) 0 j : sProp 𝕄)), around (fun c j => (dutyTok ER (recvCell c j) 0 0 : sProp 𝕄))]
  iintro ⟨H1, H2, H3⟩
  isplitl [H1]; · iexact H1
  isplitl [H3]; · iexact H3
  iexact H2

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop((∃ κ : ℕ, cellInv ER (Rd m) κ (kcell (c, k))) ∗ reached ER (kcell (c, k)) 0))
          ∗ (bigSep Finset.univ fun k : CK => atPos ER (kcell (c, k)) 0 ∅ 0) ∗ toks c ∗ localSems c) : sProp 𝕄)
      ⊢ bigSep Finset.univ (G' m) := by
  rw [bigSep_sep', bigSep_sep', bigSep_sep',
    ← bigSep_univ_prod (fun ck : Dev nD × CK => iprop((∃ κ : ℕ, cellInv ER (Rd m) κ (kcell ck)) ∗ reached ER (kcell ck) 0)), bigSep_sep']
  iintro ⟨⟨HI, HR⟩, Hat, Htok, HL⟩
  ihave HK := (BI.bigSep_exists_pi Finset.univ (fun (ck : Dev nD × CK) (κ : ℕ) => (cellInv ER (Rd m) κ (kcell ck) : sProp 𝕄))) $$ HI
  icases HK with ⟨%K, HI⟩
  ihave Htk := (toks_around (F := F)) $$ Htok
  iapply (with_persistent (R := allInv m K)
    (Φ := fun c => iprop((bigSep Finset.univ fun k : CK => atPos ER (kcell (c, k)) 0 ∅ 0) ∗ payToks c ∗ localSems c)) fun c _ => by
      unfold G'
      iintro ⟨HI, H⟩
      iexists K
      isplitl [HI]; · iexact HI
      iexact H)
  isplitl [HI HR]
  · unfold allInv; rw [bigSep_sep']
    isplitl [HI]; · iexact HI
    iexact HR
  rw [bigSep_sep', bigSep_sep']
  isplitl [Hat]; · iexact Hat
  isplitl [Htk]; · iexact Htk
  iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem recv_ne_bar (c d : Dev nD) (j : Fin 7) : recvCell c j ≠ barCell d := fun h => by
  have h2 : role (.dma (recvS j)) = role (.reg barS) := congrArg (fun g : GSem nD τ sig => role g.2) h
  rw [role_recv, role_bar] at h2; exact absurd (Option.some.inj h2) (by simp)

theorem owed_bar (d c : Dev nD) : O₀ d (barCell c) () = ∑ j : Fin 7, if fwd d j = c then 1 else 0 := by
  unfold O₀ owedRecv owedBar
  rw [Pi.add_apply, Finsupp.add_apply, Finset.sum_apply, Finset.sum_apply, Finsupp.finset_sum_apply, Finsupp.finset_sum_apply,
    Finset.sum_eq_zero fun j _ => by rw [tallyAt_apply, if_neg fun h => recv_ne_bar _ _ j h.1.symm], zero_add]
  refine Finset.sum_congr rfl fun j _ => ?_
  rw [tallyAt_apply]
  refine if_congr ⟨fun h => (congrArg (fun g : GSem nD τ sig => g.1.1) h.1).symm, fun h => ⟨by rw [h], rfl⟩⟩ rfl rfl

theorem owed_recv (d c : Dev nD) (j : Fin 7) : O₀ d (recvCell c j) () = if d = bwd c j then N else 0 := by
  unfold O₀ owedRecv owedBar
  rw [Pi.add_apply, Finsupp.add_apply, Finset.sum_apply, Finset.sum_apply, Finsupp.finset_sum_apply, Finsupp.finset_sum_apply,
    Finset.sum_eq_zero (f := fun i : Fin 7 => (tallyAt (barCell (fwd d i)) () 1 : CellTallies nD τ sig Unit) (recvCell c j) ()) fun i _ => by
      rw [tallyAt_apply, if_neg fun h => recv_ne_bar _ _ j h.1],
    add_zero, Finset.sum_eq_single j]
  · rw [tallyAt_apply]
    refine if_congr ⟨fun h => ?_, fun h => ⟨by rw [h, fwd_bwd], rfl⟩⟩ rfl rfl
    have h1 : c = fwd d j := congrArg (fun g : GSem nD τ sig => g.1.1) h.1
    rw [h1, bwd_fwd]
  · intro i _ hi
    rw [tallyAt_apply, if_neg fun h => hi ?_]
    have h2 : role (.dma (recvS j)) = role (.dma (recvS i)) := congrArg (fun g : GSem nD τ sig => role g.2) h.1
    rw [role_recv, role_recv] at h2
    exact (Sum.inr.inj (Sum.inr.inj (Option.some.inj h2))).symm
  · exact fun h => absurd (Finset.mem_univ _) h

theorem bar_total (c : Dev nD) : (∑ d : Dev nD, ∑ j : Fin 7, if fwd d j = c then 1 else 0) = 7 := by revert c; decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_total]

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (bwd c j) fun _ => N,
    if_pos (Finset.mem_univ _)]

theorem recvS_inj : Function.Injective fun j : Fin 7 => (SemLoc.dma (recvS j) : SemLoc sig) := by decide +kernel

omit [FloatOps F] in
theorem creds (c : Dev nD) :
    (Pipeline.launchCred O₀ c : sProp 𝕄)
      ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  refine BIBase.Entails.trans (BI.bigSep_subset (t := Finset.univ.map ⟨_, recvS_inj⟩) fun s hs => ?_) (Entails.of_eq ?_)
  · obtain ⟨j, -, rfl⟩ := Finset.mem_map.mp hs
    exact Finset.mem_erase.mpr ⟨fun h => (by cases h), Finset.mem_univ _⟩
  · rw [bigSep_map]
    exact bigSep_congr fun j _ => congrArg cred (launch_recv c j)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [Pipeline.unscopedRestP_none, unscopedRest0_eq]
  iintro ⟨Harr, Hlev, Hcr, -, HG⟩
  ihave Hc := (creds (F := F) c) $$ Hcr
  imodintro
  unfold start arrs
  isplitl
  · isplitl [HG]; · iexact HG
    isplitl [Hc]; · iexact Hc
    isplitl [Hlev]; · iexact Hlev
    iexact Harr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ arrs m c (out m c)) ∗ Pipeline.ownSems0 osem c ∗ Pipeline.scopedRest cfg0.spec c) := by
  rw [show (dats m 0 c).Φ (Fin.last cfg0.N) = Φ₁ m c from rfl]
  unfold Φ₁; exact BI.Entails.refl _

theorem waits (c : Dev nD) : (levAts L lv : sProp 𝕄) ⊢ Pipeline.cellsWaits cfgs (dats m) () 0 c :=
  Pipeline.cellsWaits_intro cfgs (dats m) () 0 c fun w => w.elim0

/-! ### The run -/

/-- The operands unchanged, the result as computed. -/
def Holds (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = out m c

theorem unscoped_bar : ∀ sm : SemLoc sig, sm.isScoped .tc = false → sm = .reg barS := by decide +kernel

set_option maxRecDepth 8000 in
/-- For any float values, from any memory with zero counters: every weakly fair execution of the eight devices
    terminates, with the operands unchanged, each device's result as computed and every semaphore counter at zero. -/
theorem run_main : θ_run defs (onTc (τ := τ) (main (F := F))) (s₀ m ρ) (fun r => (∀ c, Holds m r.2 c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (u₀_split (F := F) _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => iprop(unscopedSems0 c ∗ arrs m c (out m c))) (Z := fun _ => iprop(emp))
    (hX := start_intro m ρ) (hin := phi0_intro m) (hout := phi1_exit m)
    (QY := fun c s => Holds m s c ∧ s.sem (barCell c) = 0)
    (hY := fun c s' => by
      rw [unscopedSems0_eq]
      unfold arrs
      iintro ⟨⟨Hu, Ha, Hb, Ho⟩, -, HSI⟩
      icombine HSI Ha gives %ha
      icombine HSI Hb gives %hb
      icombine HSI Ho gives %ho
      icombine HSI Hu gives %hu
      imodintro
      isplitr
      · ipureintro
        exact ⟨⟨Buf.eq_of_forall_mem_univ ha, Buf.eq_of_forall_mem_univ hb, Buf.eq_of_forall_mem_univ ho⟩, hu⟩
      iexact HSI)
    (hQ := fun _ h hs => ⟨fun c => (h c).2.2.1, sem_eq_zero hs fun c sm hsm => by rw [unscoped_bar sm hsm]; exact (h c).2.2.2⟩)

end Cert.Exchange

end
-- ==== Proof.Value.lean ====
module

public import proofs.«01_k».proof.Proof.Common
public import proofs.«01_k».proof.Proof.Gen.ReferenceIdeal
public import Idealize.ShloMosaic.Lib.Pointwise
public import Idealize.ShloMosaic.Lib.ValueLayout

@[expose] public section

noncomputable section

namespace Cert.Exchange

open Idealize.ShloMosaic
open Idealize.ShloMosaic.TcCoe

/-! ## The activation, and the reference at an index -/

/-- The activation of one number, in the reference's grouping. -/
def act (y : EReal) : EReal :=
  Ideal.ofBits .f32 0x3F000000#32 * y
    * (1 + Ideal.tanh (Ideal.ofBits .f32 0x3F4C422A#32 * (y + Ideal.ofBits .f32 0x3D372713#32 * (y * y * y))))

section Reference

open Cert.ReferenceIdeal Cert.ReferenceIdeal.Gen

/-- The reference's last operations, of the product. -/
def refAct (d : FVec Ideal S2048x2048 .f32) : FVec Ideal S2048x2048 .bf16 :=
  truncf .bf16 (mulf (mulf (broadcastInDim S2048x2048 ![] bcast_S_S2048x2048 (constant S_ .f32 0x3F000000#32)) d)
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf d (mulf (broadcastInDim S2048x2048 ![] bcast_S_S2048x2048 (constant S_ .f32 0x3D372713#32)) (mulf (mulf d d) d))))))) bitsLt_bf16_f32

/-- The reference's result. -/
def refOut (x w : FVec Ideal S2048x2048 .f32) : FVec Ideal S2048x2048 .bf16 :=
  refAct (Host.dotGeneral dot_S2048x2048_S2048x2048_S2048x2048_1_0_0_1_n_n none x w)

theorem refAct_apply (d : FVec Ideal S2048x2048 .f32) (i : S2048x2048.Idx) : refAct d i = act (d i) := by
  pointwise [refAct]
  rfl

theorem refOut_apply (x w : FVec Ideal S2048x2048 .f32) (r l : Fin 2048) :
    refOut x w (ix2 r l) = act (∑ k : Fin 2048, x (ix2 r k) * w (ix2 k l)) := by
  rw [refOut, refAct_apply]
  refine congrArg act ?_
  pointwise

end Reference

open Cert.KernelIdeal Cert.KernelIdeal.Gen

/-! ## The payloads, at an index -/

theorem first_apply (x : Vec Ideal S256x512 .f32) (w : Vec Ideal S512x256 .f32) (r l : Fin 256) :
    k0_pay1 x w (ix3 0 r l) = ∑ k : Fin 512, x (ix2 r k) * w (ix2 k l) := by
  pointwise [k0_pay1]

theorem more_apply (a : Vec Ideal S1x256x256 .f32) (x : Vec Ideal S256x512 .f32) (w : Vec Ideal S512x256 .f32) (r l : Fin 256) :
    k0_pay9 x w a (ix3 0 r l) = a (ix3 0 r l) + ∑ k : Fin 512, x (ix2 r k) * w (ix2 k l) := by
  pointwise [k0_pay9]

theorem last_apply (a : Vec Ideal S1x256x256 .f32) (x : Vec Ideal S256x512 .f32) (w : Vec Ideal S512x256 .f32) (r l : Fin 256) :
    k0_pay31 a x w (ix3 0 r l) = act (a (ix3 0 r l) + ∑ k : Fin 512, x (ix2 r k) * w (ix2 k l)) := by
  pointwise [k0_pay31]
  simp only [act, mul_assoc]

/-! ## The pieces of the operands, at an index -/

theorem xPc_apply (m : (ℓ : Loc nD τ sig) → Buf (Elt Ideal) ℓ) (c : Dev nD) (q : Fin 4) (r : Fin 256) (k : Fin 512) :
    xPc m c q (ix2 r k) = X m c (ix2 r (⟨q.val * 512 + k.val, by omega⟩ : Fin 2048)) := by
  rw [xPc, View.readAt_apply]
  refine congrArg (X m c) ?_
  funext a
  apply Fin.ext
  revert a
  refine Fin.forall_fin_two.mpr ⟨?_, ?_⟩
  · show 0 + 1 * r.val = r.val
    omega
  · show 512 * q.val + 1 * k.val = q.val * 512 + k.val
    omega

theorem wPc_apply (m : (ℓ : Loc nD τ sig) → Buf (Elt Ideal) ℓ) (c : Dev nD) (q : Fin 4) (p : Dev nD) (k : Fin 512) (l : Fin 256) :
    wPc m c q p (ix2 k l) = W m c (ix2 (⟨q.val * 512 + k.val, by omega⟩ : Fin 2048) (⟨p.val * 256 + l.val, by have := p.isLt; have h : p.val < 8 := this; omega⟩ : Fin 2048)) := by
  rw [wPc, View.readAt_apply]
  refine congrArg (W m c) ?_
  funext a
  apply Fin.ext
  revert a
  refine Fin.forall_fin_two.mpr ⟨?_, ?_⟩
  · show 512 * q.val + 1 * k.val = q.val * 512 + k.val
    omega
  · show 256 * p.val + 1 * l.val = p.val * 256 + l.val
    omega

/-- A finished block, at an index: the activation of the whole product there. -/
theorem blk_apply (m : (ℓ : Loc nD τ sig) → Buf (Elt Ideal) ℓ) (c p : Dev nD) (r l : Fin 256) :
    blk m c p (ix2 r l) = act (∑ k : Fin 2048, X m c (ix2 r k)
      * W m c (ix2 k (⟨p.val * 256 + l.val, by have := p.isLt; have h : p.val < 8 := this; omega⟩ : Fin 2048))) := by
  rw [blk, ix2_eq_valueIdx, ValueIdx.reshapeEquiv_ix2_1ab, ← ix3_eq_valueIdx]
  show blk3 m c p (ix3 0 r l) = _
  rw [blk3, last_apply, acc, more_apply, more_apply, first_apply, Fin.sum_univ_tiles 4 512 rfl, Fin.sum_univ_four]
  simp only [xPc_apply, wPc_apply]

/-- A device's result is its block of columns of the reference's, when its operands are its part of the reference's. -/
theorem out_eq (m : (ℓ : Loc nD τ sig) → Buf (Elt Ideal) ℓ) (x w : FVec Ideal ReferenceIdeal.S2048x2048 .f32)
    (hx : ∀ s : Dev nD, X m s = Layout.block ⟨2, ![256, 2048]⟩ ⟨2, ![2048, 2048]⟩ 0 8 s x) (hw : ∀ s : Dev nD, W m s = w) (c : Dev nD) :
    out m c = Layout.block ⟨2, ![2048, 256]⟩ ⟨2, ![2048, 2048]⟩ 1 8 c (refOut x w) := by
  funext i
  obtain ⟨r, l, rfl⟩ : ∃ (r : Fin 2048) (l : Fin 256), i = ix2 r l := ⟨i 0, i 1, eq_ix2 i⟩
  have hc : c.val < 8 := c.isLt
  have ho : out m c (ix2 r l) = blk m (⟨r.val / 256, by show r.val / 256 < 8; omega⟩ : Dev nD) c (ix2 (⟨r.val % 256, Nat.mod_lt _ (by decide)⟩ : Fin 256) l) := by
    refine congrArg (blk m _ c) ?_
    funext a
    revert a
    exact Fin.forall_fin_two.mpr ⟨rfl, rfl⟩
  have hi : ∀ h : Layout.Tiles ⟨2, ![2048, 256]⟩ ⟨2, ![2048, 2048]⟩ 1 8,
      h.idx c (ix2 r l) = ix2 r (⟨c.val * 256 + l.val, by omega⟩ : Fin 2048) := fun h => by
    funext a
    revert a
    exact Fin.forall_fin_two.mpr ⟨rfl, rfl⟩
  have hr : ∀ (k : Fin 2048) (h : Layout.Tiles ⟨2, ![256, 2048]⟩ ⟨2, ![2048, 2048]⟩ 0 8),
      h.idx (⟨r.val / 256, by omega⟩ : Fin 8) (ix2 (⟨r.val % 256, Nat.mod_lt _ (by decide)⟩ : Fin 256) k) = ix2 r k := fun k h => by
    funext a
    revert a
    refine Fin.forall_fin_two.mpr ⟨Fin.ext ?_, rfl⟩
    show r.val / 256 * 256 + r.val % 256 = r.val
    omega
  rw [ho, blk_apply, Layout.block_apply, hi, refOut_apply]
  refine congrArg act (Finset.sum_congr rfl fun k _ => ?_)
  rw [hx, hw, Layout.block_apply]
  exact congrArg (fun j => x j * _) (hr k _)

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Exchange

/-- The kernel runs, its operands end unchanged, its semaphores end at zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The same of the idealized kernel. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference has no semaphore. -/
theorem frame_referenceIdeal : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- Each device's result is its block of columns of the reference's. -/
theorem value : Cert.algebraic_KernelIdeal_ReferenceIdeal := fun m ρ m' ρ' _ hargs =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (out_eq m _ _ (fun s => (hargs s).1) (fun s => (hargs s).2) c), (h.1 c).1, (h.1 c).2.1⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
